-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 4, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 4, 4] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 4, 4] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bitsLt_bf16_f32 : FTy.bits .bf16 < FTy.bits .f32
  bcast_S_S1x1024x2048 : S_.BroadcastsInDim S1x1024x2048 (![] : Fin 0 → Fin S1x1024x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn_part1 {F : FTy → Type} [FloatOps F] (main_arg6 : FVec F S2048x32 .bf16) (main_v3 : IVec S1x1024x2048 1) (main_v7 : IVec S2048x128 1) (main_v11 : IVec S128x2048 1) (main_v15 : IVec S2048x2048 1) (main_v17 : FVec F S2048x512 .f32) (main_v18 : FVec F S2048x512 .f32) : IVec S1x1024x2048 1 × IVec S2048x128 1 × IVec S128x2048 1 × IVec S2048x2048 1 × IVec S2048x512 1 × IVec S2048x32 1 :=
  let main_v19 : IVec S2048x512 1 := cmpf .olt main_v17 main_v18
  let main_v20 : FVec F S2048x32 .f32 := (extf .f32 · bitsLt_bf16_f32) main_arg6
  let main_v21 : FVec F S2048x32 .f32 := Host.absf main_v20
  let main_cst_4 : FVec F S_ .f32 := constant S_ .f32 0x7F800000#32
  let main_v22 : FVec F S2048x32 .f32 := broadcastInDim S2048x32 ![] bcast_S_S2048x32 main_cst_4
  let main_v23 : IVec S2048x32 1 := cmpf .olt main_v21 main_v22
  (main_v3, main_v7, main_v11, main_v15, main_v19, main_v23)

def fn {F : FTy → Type} [FloatOps F] (main_arg0 : FVec F S1x1024x2048 .bf16) (main_arg1 : FVec F S2048x128 .bf16) (main_arg2 : FVec F S128x2048 .bf16) (main_arg3 : FVec F S128x2048 .bf16) (main_arg4 : FVec F S2048x2048 .bf16) (main_arg5 : FVec F S2048x512 .bf16) (main_arg6 : FVec F S2048x32 .bf16) (main_arg7 : FVec F S2048x2048 .bf16) : IVec S1x1024x2048 1 × IVec S2048x128 1 × IVec S128x2048 1 × IVec S2048x2048 1 × IVec S2048x512 1 × IVec S2048x32 1 :=
  let main_v0 : FVec F S1x1024x2048 .f32 := (extf .f32 · bitsLt_bf16_f32) main_arg0
  let main_v1 : FVec F S1x1024x2048 .f32 := Host.absf main_v0
  let main_cst : FVec F S_ .f32 := constant S_ .f32 0x7F800000#32
  let main_v2 : FVec F S1x1024x2048 .f32 := broadcastInDim S1x1024x2048 ![] bcast_S_S1x1024x2048 main_cst
  let main_v3 : IVec S1x1024x2048 1 := cmpf .olt main_v1 main_v2
  let main_v4 : FVec F S2048x128 .f32 := (extf .f32 · bitsLt_bf16_f32) main_arg1
  let main_v5 : FVec F S2048x128 .f32 := Host.absf main_v4
  let main_cst_0 : FVec F S_ .f32 := constant S_ .f32 0x7F800000#32
  let main_v6 : FVec F S2048x128 .f32 := broadcastInDim S2048x128 ![] bcast_S_S2048x128 main_cst_0
  let main_v7 : IVec S2048x128 1 := cmpf .olt main_v5 main_v6
  let main_v8 : FVec F S128x2048 .f32 := (extf .f32 · bitsLt_bf16_f32) main_arg2
  let main_v9 : FVec F S128x2048 .f32 := Host.absf main_v8
  let main_cst_1 : FVec F S_ .f32 := constant S_ .f32 0x7F800000#32
  let main_v10 : FVec F S128x2048 .f32 := broadcastInDim S128x2048 ![] bcast_S_S128x2048 main_cst_1
  let main_v11 : IVec S128x2048 1 := cmpf .olt main_v9 main_v10
  let main_v12 : FVec F S2048x2048 .f32 := (extf .f32 · bitsLt_bf16_f32) main_arg4
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_v16 : FVec F S2048x512 .f32 := (extf .f32 · bitsLt_bf16_f32) main_arg5
  let main_v17 : FVec F S2048x512 .f32 := Host.absf main_v16
  let main_cst_3 : FVec F S_ .f32 := constant S_ .f32 0x7F800000#32
  let main_v18 : FVec F S2048x512 .f32 := broadcastInDim S2048x512 ![] bcast_S_S2048x512 main_cst_3
  fn_part1 (F := F) main_arg6 main_v3 main_v7 main_v11 main_v15 main_v17 main_v18
-- ==== Pre_finite_ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bitsLt_bf16_f32 : FTy.bits .bf16 < FTy.bits .f32
  bcast_S_S1x1024x2048 : S_.BroadcastsInDim S1x1024x2048 (![] : Fin 0 → Fin S1x1024x2048.rank)
  bcast_S_S2048x256 : S_.BroadcastsInDim S2048x256 (![] : Fin 0 → Fin S2048x256.rank)
  bcast_S_S256x2048 : S_.BroadcastsInDim S256x2048 (![] : Fin 0 → Fin S256x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn_part1 {F : FTy → Type} [FloatOps F] (main_arg6 : FVec F S2048x32 .bf16) (main_v3 : IVec S1x1024x2048 1) (main_v7 : IVec S2048x256 1) (main_v11 : IVec S256x2048 1) (main_v15 : IVec S2048x2048 1) (main_v17 : FVec F S2048x512 .f32) (main_v18 : FVec F S2048x512 .f32) : IVec S1x1024x2048 1 × IVec S2048x256 1 × IVec S256x2048 1 × IVec S2048x2048 1 × IVec S2048x512 1 × IVec S2048x32 1 :=
  let main_v19 : IVec S2048x512 1 := cmpf .olt main_v17 main_v18
  let main_v20 : FVec F S2048x32 .f32 := (extf .f32 · bitsLt_bf16_f32) main_arg6
  let main_v21 : FVec F S2048x32 .f32 := Host.absf main_v20
  let main_cst_4 : FVec F S_ .f32 := constant S_ .f32 0x7F800000#32
  let main_v22 : FVec F S2048x32 .f32 := broadcastInDim S2048x32 ![] bcast_S_S2048x32 main_cst_4
  let main_v23 : IVec S2048x32 1 := cmpf .olt main_v21 main_v22
  (main_v3, main_v7, main_v11, main_v15, main_v19, main_v23)

def fn {F : FTy → Type} [FloatOps F] (main_arg0 : FVec F S1x1024x2048 .bf16) (main_arg1 : FVec F S2048x256 .bf16) (main_arg2 : FVec F S256x2048 .bf16) (main_arg3 : FVec F S256x2048 .bf16) (main_arg4 : FVec F S2048x2048 .bf16) (main_arg5 : FVec F S2048x512 .bf16) (main_arg6 : FVec F S2048x32 .bf16) (main_arg7 : FVec F S2048x2048 .bf16) : IVec S1x1024x2048 1 × IVec S2048x256 1 × IVec S256x2048 1 × IVec S2048x2048 1 × IVec S2048x512 1 × IVec S2048x32 1 :=
  let main_v0 : FVec F S1x1024x2048 .f32 := (extf .f32 · bitsLt_bf16_f32) main_arg0
  let main_v1 : FVec F S1x1024x2048 .f32 := Host.absf main_v0
  let main_cst : FVec F S_ .f32 := constant S_ .f32 0x7F800000#32
  let main_v2 : FVec F S1x1024x2048 .f32 := broadcastInDim S1x1024x2048 ![] bcast_S_S1x1024x2048 main_cst
  let main_v3 : IVec S1x1024x2048 1 := cmpf .olt main_v1 main_v2
  let main_v4 : FVec F S2048x256 .f32 := (extf .f32 · bitsLt_bf16_f32) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_v8 : FVec F S256x2048 .f32 := (extf .f32 · bitsLt_bf16_f32) main_arg2
  let main_v9 : FVec F S256x2048 .f32 := Host.absf main_v8
  let main_cst_1 : FVec F S_ .f32 := constant S_ .f32 0x7F800000#32
  let main_v10 : FVec F S256x2048 .f32 := broadcastInDim S256x2048 ![] bcast_S_S256x2048 main_cst_1
  let main_v11 : IVec S256x2048 1 := cmpf .olt main_v9 main_v10
  let main_v12 : FVec F S2048x2048 .f32 := (extf .f32 · bitsLt_bf16_f32) main_arg4
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_v16 : FVec F S2048x512 .f32 := (extf .f32 · bitsLt_bf16_f32) main_arg5
  let main_v17 : FVec F S2048x512 .f32 := Host.absf main_v16
  let main_cst_3 : FVec F S_ .f32 := constant S_ .f32 0x7F800000#32
  let main_v18 : FVec F S2048x512 .f32 := broadcastInDim S2048x512 ![] bcast_S_S2048x512 main_cst_3
  fn_part1 (F := F) main_arg6 main_v3 main_v7 main_v11 main_v15 main_v17 main_v18
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S128x1024 : Shape := ⟨2, ![128, 1024]⟩
abbrev S1024x1024 : Shape := ⟨2, ![1024, 1024]⟩
abbrev S256x1024 : Shape := ⟨2, ![256, 1024]⟩
abbrev S2x2048x512 : Shape := ⟨3, ![2, 2048, 512]⟩
abbrev S3 : Shape := ⟨1, ![3]⟩
abbrev S2 : Shape := ⟨1, ![2]⟩
abbrev S_ : Shape := ⟨0, ![]⟩
abbrev S1 : Shape := ⟨1, ![1]⟩
abbrev S1024x2048 : Shape := ⟨2, ![1024, 2048]⟩
abbrev S2048x1024 : Shape := ⟨2, ![2048, 1024]⟩
abbrev S2048x256 : Shape := ⟨2, ![2048, 256]⟩
abbrev S32x1024 : Shape := ⟨2, ![32, 1024]⟩
abbrev S1024x32 : Shape := ⟨2, ![1024, 32]⟩
abbrev S1024x128 : Shape := ⟨2, ![1024, 128]⟩
abbrev S128x512 : Shape := ⟨2, ![128, 512]⟩
abbrev S1024x512 : Shape := ⟨2, ![1024, 512]⟩
abbrev S32x512 : Shape := ⟨2, ![32, 512]⟩
abbrev S512 : Shape := ⟨1, ![512]⟩
abbrev S1x512 : Shape := ⟨2, ![1, 512]⟩
abbrev S1x128x512 : Shape := ⟨3, ![1, 128, 512]⟩
abbrev S1x1024x512 : Shape := ⟨3, ![1, 1024, 512]⟩
abbrev S1x2048x512 : Shape := ⟨3, ![1, 2048, 512]⟩
abbrev S512x2048 : Shape := ⟨2, ![512, 2048]⟩
abbrev S1x512x2048 : Shape := ⟨3, ![1, 512, 2048]⟩

abbrev nBuf : Space → Nat
  | .hbm => 9
  | .vmem => 20
  | .smem => 0
  | _ => 0

abbrev bufTy : (tb : Table) → Fin (tcTables nBuf tb) → BufTy
  | .hbm, ⟨0, _⟩ => ⟨S1x1024x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S1x1024x2048, .bf16⟩
  | .local _ .vmem, ⟨0, _⟩ => ⟨S1x1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x2048, .bf16⟩
  | .local _ .vmem, ⟨5, _⟩ => ⟨S2048x512, .bf16⟩
  | .local _ .vmem, ⟨6, _⟩ => ⟨S2048x32, .bf16⟩
  | .local _ .vmem, ⟨7, _⟩ => ⟨S2048x2048, .bf16⟩
  | .local _ .vmem, ⟨8, _⟩ => ⟨S1x1024x2048, .bf16⟩
  | .local _ .vmem, ⟨9, _⟩ => ⟨S2048x128, .bf16⟩
  | .local _ .vmem, ⟨10, _⟩ => ⟨S128x1024, .bf16⟩
  | .local _ .vmem, ⟨11, _⟩ => ⟨S128x1024, .bf16⟩
  | .local _ .vmem, ⟨12, _⟩ => ⟨S2048x128, .bf16⟩
  | .local _ .vmem, ⟨13, _⟩ => ⟨S128x2048, .bf16⟩
  | .local _ .vmem, ⟨14, _⟩ => ⟨S128x2048, .bf16⟩
  | .local _ .vmem, ⟨15, _⟩ => ⟨S1024x1024, .bf16⟩
  | .local _ .vmem, ⟨16, _⟩ => ⟨S256x1024, .bf16⟩
  | .local _ .vmem, ⟨17, _⟩ => ⟨S1024x1024, .bf16⟩
  | .local _ .vmem, ⟨18, _⟩ => ⟨S1024x1024, .bf16⟩
  | .local _ .vmem, ⟨19, _⟩ => ⟨S2x2048x512, .bf16⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_17 : BitVec 32 := 16#32
  let v30 : BitVec 32 := Scalar.muli v9 c16_i32_17
  let v31 : BitVec 32 := Scalar.addi c0_i32 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v32 : BitVec 32 := Scalar.muli v5 c4_i32_18
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v34 : BitVec 32 := Scalar.muli v8 c1_i32_19
  let v35 : BitVec 32 := Scalar.addi v33 v34
  v35.toNat
def k0_dev2 (d0 : Dev nD) : Nat :=
  let c0_i32_24 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_23 : BitVec 32 := 16#32
  let v36 : BitVec 32 := Scalar.muli v9 c16_i32_23
  let v37 : BitVec 32 := Scalar.addi c0_i32_24 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v38 : BitVec 32 := Scalar.muli v5 c4_i32_25
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v40 : BitVec 32 := Scalar.muli v8 c1_i32_26
  let v41 : BitVec 32 := Scalar.addi v39 v40
  v41.toNat
def k0_off1 (d0 : Dev nD) : Fin 2 → Nat :=
  let c0_i32_33 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_3 v2
  let c1024_i32_4 : BitVec 32 := 1024#32
  let v13 : BitVec 32 := Scalar.muli v12 c1024_i32_4
  ![0, v13.toNat]
def k0_dev3 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v46 : BitVec 32 := Scalar.muli v9 c16_i32_29
  let v47 : BitVec 32 := Scalar.addi c0_i32_30 v46
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v48 : BitVec 32 := Scalar.muli v5 c4_i32_31
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v50 : BitVec 32 := Scalar.muli v8 c1_i32_32
  let v51 : BitVec 32 := Scalar.addi v49 v50
  v51.toNat
def k0_dev4 (d0 : Dev nD) : Nat :=
  let c0_i32_37 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_36 : BitVec 32 := 16#32
  let v57 : BitVec 32 := Scalar.muli v9 c16_i32_36
  let v58 : BitVec 32 := Scalar.addi c0_i32_37 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v59 : BitVec 32 := Scalar.muli v5 c4_i32_38
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v61 : BitVec 32 := Scalar.muli v8 c1_i32_39
  let v62 : BitVec 32 := Scalar.addi v60 v61
  v62.toNat
def k0_off2 (d0 : Dev nD) : Fin 2 → Nat :=
  let c0_44 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v10 : BitVec 32 := Scalar.muli v2 c1024_i32
  let v71 : Index := Scalar.indexCast v10
  ![0, v71.toNat]
def k0_off3 (d0 : Dev nD) : Fin 2 → Nat :=
  let c0_48 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v11 : BitVec 32 := Scalar.muli v2 c256_i32
  let v81 : Index := Scalar.indexCast v11
  ![0, v81.toNat]
def k0_off4 (d0 : Dev nD) : Fin 2 → Nat :=
  let c0_93 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v10 : BitVec 32 := Scalar.muli v2 c1024_i32
  let v138 : Index := Scalar.indexCast v10
  ![0, v138.toNat]
@[reducible] def k0_t1_loop : Scf.Loop 32 :=
  let c0_i32_107 : BitVec 32 := 0#32
  let c8_i32 : BitVec 32 := 8#32
  let v158 : BitVec 32 := Scalar.addi c0_i32_107 c8_i32
  let c1_i32_108 : BitVec 32 := 1#32
  ⟨c0_i32_107, v158, c1_i32_108⟩
def k0_off5 (k0_t1 : Fin k0_t1_loop.trips) : Fin 2 → Nat :=
  let c0_184 : Index := 0#32
  let c0_i32_107 : BitVec 32 := 0#32
  let c1_i32_108 : BitVec 32 := 1#32
  let arg24 : BitVec 32 := Scf.iv c0_i32_107 c1_i32_108 k0_t1
  let c128_i32 : BitVec 32 := 128#32
  let v242 : BitVec 32 := Scalar.muli arg24 c128_i32
  let v243 : Index := Scalar.indexCast v242
  ![0, v243.toNat]
def k0_off6 (k0_t1 : Fin k0_t1_loop.trips) : Fin 2 → Nat :=
  let c0_i32_107 : BitVec 32 := 0#32
  let c1_i32_108 : BitVec 32 := 1#32
  let arg24 : BitVec 32 := Scf.iv c0_i32_107 c1_i32_108 k0_t1
  let c128_i32_185 : BitVec 32 := 128#32
  let v245 : BitVec 32 := Scalar.muli arg24 c128_i32_185
  let v246 : Index := Scalar.indexCast v245
  let c0_186 : Index := 0#32
  ![v246.toNat, 0]
def k0_off7 (k0_t1 : Fin k0_t1_loop.trips) : Fin 2 → Nat :=
  let c0_i32_107 : BitVec 32 := 0#32
  let c1_i32_108 : BitVec 32 := 1#32
  let arg24 : BitVec 32 := Scf.iv c0_i32_107 c1_i32_108 k0_t1
  let c32_i32 : BitVec 32 := 32#32
  let v249 : BitVec 32 := Scalar.muli arg24 c32_i32
  let v250 : Index := Scalar.indexCast v249
  let c0_188 : Index := 0#32
  ![v250.toNat, 0]
def k0_off8 (k0_t1 : Fin k0_t1_loop.trips) : Fin 2 → Nat :=
  let c0_i32_107 : BitVec 32 := 0#32
  let c1_i32_108 : BitVec 32 := 1#32
  let arg24 : BitVec 32 := Scf.iv c0_i32_107 c1_i32_108 k0_t1
  let c128_i32_192 : BitVec 32 := 128#32
  let v259 : BitVec 32 := Scalar.muli arg24 c128_i32_192
  let v260 : Index := Scalar.indexCast v259
  let c0_193 : Index := 0#32
  ![v260.toNat, 0]
def k0_off9 (d0 : Dev nD) (k0_t1 : Fin k0_t1_loop.trips) : Fin 3 → Nat :=
  let c0_196 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v10 : BitVec 32 := Scalar.muli v2 c1024_i32
  let c0_i32_107 : BitVec 32 := 0#32
  let c1_i32_108 : BitVec 32 := 1#32
  let arg24 : BitVec 32 := Scf.iv c0_i32_107 c1_i32_108 k0_t1
  let c128_i32_195 : BitVec 32 := 128#32
  let v267 : BitVec 32 := Scalar.muli arg24 c128_i32_195
  let v268 : BitVec 32 := Scalar.addi v10 v267
  let v269 : Index := Scalar.indexCast v268
  let c0_197 : Index := 0#32
  ![0, v269.toNat, 0]
def k0_off10 (d0 : Dev nD) : Fin 3 → Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v10 : BitVec 32 := Scalar.muli v2 c1024_i32
  let c0_i32_118 : BitVec 32 := 0#32
  ![0, v10.toNat, 0]
def k0_dev5 (d0 : Dev nD) : Nat :=
  let c0_i32_115 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_114 : BitVec 32 := 16#32
  let v159 : BitVec 32 := Scalar.muli v9 c16_i32_114
  let v160 : BitVec 32 := Scalar.addi c0_i32_115 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v161 : BitVec 32 := Scalar.muli v5 c4_i32_116
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v163 : BitVec 32 := Scalar.muli v8 c1_i32_117
  let v164 : BitVec 32 := Scalar.addi v162 v163
  v164.toNat
@[reducible] def k0_t2_loop : Scf.Loop 32 :=
  let c0_i32_120 : BitVec 32 := 0#32
  let c8_i32_121 : BitVec 32 := 8#32
  let v173 : BitVec 32 := Scalar.addi c0_i32_120 c8_i32_121
  let c1_i32_122 : BitVec 32 := 1#32
  ⟨c0_i32_120, v173, c1_i32_122⟩
def k0_off11 (k0_t2 : Fin k0_t2_loop.trips) : Fin 2 → Nat :=
  let c0_184 : Index := 0#32
  let c0_i32_120 : BitVec 32 := 0#32
  let c1_i32_122 : BitVec 32 := 1#32
  let arg24 : BitVec 32 := Scf.iv c0_i32_120 c1_i32_122 k0_t2
  let c128_i32 : BitVec 32 := 128#32
  let v242 : BitVec 32 := Scalar.muli arg24 c128_i32
  let v243 : Index := Scalar.indexCast v242
  ![0, v243.toNat]
def k0_off12 (k0_t2 : Fin k0_t2_loop.trips) : Fin 2 → Nat :=
  let c0_i32_120 : BitVec 32 := 0#32
  let c1_i32_122 : BitVec 32 := 1#32
  let arg24 : BitVec 32 := Scf.iv c0_i32_120 c1_i32_122 k0_t2
  let c128_i32_185 : BitVec 32 := 128#32
  let v245 : BitVec 32 := Scalar.muli arg24 c128_i32_185
  let v246 : Index := Scalar.indexCast v245
  let c512_186 : Index := 512#32
  ![v246.toNat, 512]
def k0_off13 (k0_t2 : Fin k0_t2_loop.trips) : Fin 2 → Nat :=
  let c0_i32_120 : BitVec 32 := 0#32
  let c1_i32_122 : BitVec 32 := 1#32
  let arg24 : BitVec 32 := Scf.iv c0_i32_120 c1_i32_122 k0_t2
  let c32_i32 : BitVec 32 := 32#32
  let v249 : BitVec 32 := Scalar.muli arg24 c32_i32
  let v250 : Index := Scalar.indexCast v249
  let c512_188 : Index := 512#32
  ![v250.toNat, 512]
def k0_off14 (k0_t2 : Fin k0_t2_loop.trips) : Fin 2 → Nat :=
  let c0_i32_120 : BitVec 32 := 0#32
  let c1_i32_122 : BitVec 32 := 1#32
  let arg24 : BitVec 32 := Scf.iv c0_i32_120 c1_i32_122 k0_t2
  let c128_i32_192 : BitVec 32 := 128#32
  let v259 : BitVec 32 := Scalar.muli arg24 c128_i32_192
  let v260 : Index := Scalar.indexCast v259
  let c0_193 : Index := 0#32
  ![v260.toNat, 0]
def k0_off15 (d0 : Dev nD) (k0_t2 : Fin k0_t2_loop.trips) : Fin 3 → Nat :=
  let c1_196 : Index := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v10 : BitVec 32 := Scalar.muli v2 c1024_i32
  let c0_i32_120 : BitVec 32 := 0#32
  let c1_i32_122 : BitVec 32 := 1#32
  let arg24 : BitVec 32 := Scf.iv c0_i32_120 c1_i32_122 k0_t2
  let c128_i32_195 : BitVec 32 := 128#32
  let v267 : BitVec 32 := Scalar.muli arg24 c128_i32_195
  let v268 : BitVec 32 := Scalar.addi v10 v267
  let v269 : Index := Scalar.indexCast v268
  let c0_197 : Index := 0#32
  ![1, v269.toNat, 0]
def k0_off16 (d0 : Dev nD) : Fin 3 → Nat :=
  let c1_i32_125 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v10 : BitVec 32 := Scalar.muli v2 c1024_i32
  let c0_i32_132 : BitVec 32 := 0#32
  ![1, v10.toNat, 0]
def k0_dev6 (d0 : Dev nD) : Nat :=
  let c0_i32_129 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_128 : BitVec 32 := 16#32
  let v174 : BitVec 32 := Scalar.muli v9 c16_i32_128
  let v175 : BitVec 32 := Scalar.addi c0_i32_129 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v176 : BitVec 32 := Scalar.muli v5 c4_i32_130
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v178 : BitVec 32 := Scalar.muli v8 c1_i32_131
  let v179 : BitVec 32 := Scalar.addi v177 v178
  v179.toNat
abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S1x1024x256 : Shape := ⟨3, ![1, 1024, 256]⟩
abbrev S1x1024x16x128 : Shape := ⟨4, ![1, 1024, 16, 128]⟩
abbrev S1x1024x512 : Shape := ⟨3, ![1, 1024, 512]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S1x16x1024x1024 : Shape := ⟨4, ![1, 16, 1024, 1024]⟩
abbrev S_ : Shape := ⟨0, ![]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x1024x2048, .bf16⟩
  | .hbm, ⟨1, _⟩ => ⟨S2048x256, .bf16⟩
  | .hbm, ⟨2, _⟩ => ⟨S256x2048, .bf16⟩
  | .hbm, ⟨3, _⟩ => ⟨S256x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S1x1024x2048, .f32⟩
  | .hbm, ⟨9, _⟩ => ⟨S2048x256, .f32⟩
  | .hbm, ⟨10, _⟩ => ⟨S256x2048, .f32⟩
  | .hbm, ⟨11, _⟩ => ⟨S256x2048, .f32⟩
  | .hbm, ⟨12, _⟩ => ⟨S2048x2048, .f32⟩
  | .hbm, ⟨13, _⟩ => ⟨S2048x512, .f32⟩
  | .hbm, ⟨14, _⟩ => ⟨S2048x32, .f32⟩
  | .hbm, ⟨15, _⟩ => ⟨S2048x2048, .f32⟩
  | .hbm, ⟨16, _⟩ => ⟨S1x1024x256, .f32⟩
  | .hbm, ⟨17, _⟩ => ⟨S1x1024x2048, .f32⟩
  | .hbm, ⟨18, _⟩ => ⟨S1x1024x16x128, .f32⟩
  | .hbm, ⟨19, _⟩ => ⟨S1x1024x2048, .f32⟩
  | .hbm, ⟨20, _⟩ => ⟨S1x1024x16x128, .f32⟩
  | .hbm, ⟨21, _⟩ => ⟨S1x1024x2048, .f32⟩
  | .hbm, ⟨22, _⟩ => ⟨S1x1024x16x128, .f32⟩
  | .hbm, ⟨23, _⟩ => ⟨S1x1024x512, .f32⟩
  | .hbm, ⟨24, _⟩ => ⟨S1x1024x16x32, .f32⟩
  | .hbm, ⟨25, _⟩ => ⟨S1x1024x32, .f32⟩
  | .hbm, ⟨26, _⟩ => ⟨S1x1024x1x32, .f32⟩
  | .hbm, ⟨27, _⟩ => ⟨S1x16x1024x1024, .f32⟩
  | .hbm, ⟨28, _⟩ => ⟨S1x1024x16x32, .f32⟩
  | .hbm, ⟨29, _⟩ => ⟨S1x16x1024x1024, .f32⟩
  | .hbm, ⟨30, _⟩ => ⟨S1x16x1024x1024, .f32⟩
  | .hbm, ⟨31, _⟩ => ⟨S_, .f32⟩
  | .hbm, ⟨32, _⟩ => ⟨S1x16x1024x1024, .f32⟩
  | .hbm, ⟨33, _⟩ => ⟨S1x16x1024x1024, .f32⟩
  | .hbm, ⟨34, _⟩ => ⟨S_, .f32⟩
  | .hbm, ⟨35, _⟩ => ⟨S1x16x1024, .f32⟩
  | .hbm, ⟨36, _⟩ => ⟨S1x16x1024x1, .f32⟩
  | .hbm, ⟨37, _⟩ => ⟨S1x16x1024x1024, .f32⟩
  | .hbm, ⟨38, _⟩ => ⟨S1x16x1024x1024, .f32⟩
  | .hbm, ⟨39, _⟩ => ⟨S1x16x1024x1024, .f32⟩
  | .hbm, ⟨40, _⟩ => ⟨S_, .f32⟩
  | .hbm, ⟨41, _⟩ => ⟨S1x16x1024, .f32⟩
  | .hbm, ⟨42, _⟩ => ⟨S1x16x1024x1, .f32⟩
  | .hbm, ⟨43, _⟩ => ⟨S1x16x1024x1024, .f32⟩
  | .hbm, ⟨44, _⟩ => ⟨S1x16x1024x1024, .f32⟩
  | .hbm, ⟨45, _⟩ => ⟨S1x16x128x1024, .f32⟩
  | .hbm, ⟨46, _⟩ => ⟨S1x1024x16x128, .f32⟩
  | .hbm, ⟨47, _⟩ => ⟨S1x1024x2048, .f32⟩
  | .hbm, ⟨48, _⟩ => ⟨S1x1024x2048, .f32⟩
  | .hbm, ⟨49, _⟩ => ⟨S1x1024x2048, .bf16⟩
  | _, _ => ⟨S1x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Contents.lean ====
/-
  What the buffers hold: for every device, the contents that its kernel puts into each scratch buffer, as functions of
  the memory at launch. The values of the stores are the payloads of the generated skeleton.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe

variable {F : FTy → Type} [FloatOps F]

/-! ## The pairs of devices -/

set_option backward.proofsInPublic true in
/-- The device that `c` exchanges with: the one whose first mesh coordinate is the other one. -/
def peer (c : Dev nD) : Dev nD := ⟨(c.val + 16) % 32, Nat.mod_lt _ (by decide)⟩

/-- The peer's peer is the device itself. -/
theorem peer_peer (c : Dev nD) : peer (peer c) = c := by revert c; decide
/-- The peer's number in the mesh. -/
theorem peer_val (c : Dev nD) : (peer c).val = (4 * ((c.val / 4) % 4) + c.val % 4 + 16) - 16 * (c.val / 16) := by revert c; decide
/-- The peer's place on the first axis is the other one. -/
theorem peer_div (c : Dev nD) : (peer c).val / 16 = 1 - c.val / 16 := by revert c; decide
/-- A place on the first axis is 0 or 1. -/
theorem dev_div (c : Dev nD) : c.val / 16 ≤ 1 := by revert c; decide

/-- The two of a pair, as a permutation of the devices. -/
def swap : Dev nD ≃ Dev nD := ⟨peer, peer, peer_peer, peer_peer⟩

/-- The device that addressed step 1 names is the peer. -/
theorem dev1_eq (c : Dev nD) : (⟨k0_dev1 c, k0_dev1_lt c⟩ : Dev nD) = peer c := Fin.ext ((k0_dev1_eq c).trans (peer_val c).symm)
/-- The device that addressed step 2 names is the peer. -/
theorem dev2_eq (c : Dev nD) : (⟨k0_dev2 c, k0_dev2_lt c⟩ : Dev nD) = peer c := Fin.ext ((k0_dev2_eq c).trans (peer_val c).symm)
/-- The device that addressed step 3 names is the peer. -/
theorem dev3_eq (c : Dev nD) : (⟨k0_dev3 c, k0_dev3_lt c⟩ : Dev nD) = peer c := Fin.ext ((k0_dev3_eq c).trans (peer_val c).symm)
/-- The device that addressed step 4 names is the peer. -/
theorem dev4_eq (c : Dev nD) : (⟨k0_dev4 c, k0_dev4_lt c⟩ : Dev nD) = peer c := Fin.ext ((k0_dev4_eq c).trans (peer_val c).symm)
/-- The device that addressed step 5 names is the peer. -/
theorem dev5_eq (c : Dev nD) : (⟨k0_dev5 c, k0_dev5_lt c⟩ : Dev nD) = peer c := Fin.ext ((k0_dev5_eq c).trans (peer_val c).symm)
/-- The device that addressed step 6 names is the peer. -/
theorem dev6_eq (c : Dev nD) : (⟨k0_dev6 c, k0_dev6_lt c⟩ : Dev nD) = peer c := Fin.ext ((k0_dev6_eq c).trans (peer_val c).symm)

/-! ## The buffers -/

/-- The buffer of the staged input. -/
abbrev aX : Memref sig .tc .vmem S1x1024x2048 .bf16 := Memref.whole cc0_stg0_0
/-- The buffer of the staged down-projection. -/
abbrev aDkv : Memref sig .tc .vmem S2048x128 .bf16 := Memref.whole cc0_stg1_0
/-- The buffer of the staged keys' up-projection. -/
abbrev aUk : Memref sig .tc .vmem S128x2048 .bf16 := Memref.whole cc0_stg2_0
/-- The buffer of the staged values' up-projection. -/
abbrev aUv : Memref sig .tc .vmem S128x2048 .bf16 := Memref.whole cc0_stg3_0
/-- The buffer of the staged queries' projection. -/
abbrev aQ : Memref sig .tc .vmem S2048x2048 .bf16 := Memref.whole cc0_stg4_0
/-- The buffer of the staged rotary queries' projection. -/
abbrev aQr : Memref sig .tc .vmem S2048x512 .bf16 := Memref.whole cc0_stg5_0
/-- The buffer of the staged rotary key's projection. -/
abbrev aKr : Memref sig .tc .vmem S2048x32 .bf16 := Memref.whole cc0_stg6_0
/-- The buffer of the staged output projection. -/
abbrev aO : Memref sig .tc .vmem S2048x2048 .bf16 := Memref.whole cc0_stg7_0
/-- The buffer of the staged result. -/
abbrev aOut : Memref sig .tc .vmem S1x1024x2048 .bf16 := Memref.whole cc0_stg8_0
/-- The buffer of the peer's down-projection. -/
abbrev pDkv : Memref sig .tc .vmem S2048x128 .bf16 := Memref.whole cc0_scratch0
/-- The buffer of the peer's columns of the keys' up-projection. -/
abbrev pUk : Memref sig .tc .vmem S128x1024 .bf16 := Memref.whole cc0_scratch1
/-- The buffer of the peer's columns of the values' up-projection. -/
abbrev pUv : Memref sig .tc .vmem S128x1024 .bf16 := Memref.whole cc0_scratch2
/-- The buffer of the own down-projection that is sent. -/
abbrev bDkv : Memref sig .tc .vmem S2048x128 .bf16 := Memref.whole cc0_scratch3
/-- The buffer of the own keys' up-projection that is sent from. -/
abbrev bUk : Memref sig .tc .vmem S128x2048 .bf16 := Memref.whole cc0_scratch4
/-- The buffer of the own values' up-projection that is sent from. -/
abbrev bUv : Memref sig .tc .vmem S128x2048 .bf16 := Memref.whole cc0_scratch5
/-- The buffer of the transposed queries. -/
abbrev mQ : Memref sig .tc .vmem S1024x1024 .bf16 := Memref.whole cc0_scratch6
/-- The buffer of the transposed rotary queries. -/
abbrev mQr : Memref sig .tc .vmem S256x1024 .bf16 := Memref.whole cc0_scratch7
/-- The buffer of the keys. -/
abbrev mK : Memref sig .tc .vmem S1024x1024 .bf16 := Memref.whole cc0_scratch8
/-- The buffer of the transposed values. -/
abbrev mV : Memref sig .tc .vmem S1024x1024 .bf16 := Memref.whole cc0_scratch9
/-- The buffer of the heads' outputs. -/
abbrev mOut : Memref sig .tc .vmem S2x2048x512 .bf16 := Memref.whole cc0_scratch10

/-- The columns of the first up-projection that device `d` sends. -/
abbrev wUk (d : Dev nD) : Memref sig .tc .vmem S128x1024 .bf16 := bUk.slice (Rect.unit (s := S128x2048) (k0_off1 d) S128x1024.size (k0_off1_inb d)) (fun _ => rfl)
/-- The columns of the second up-projection that device `d` sends. -/
abbrev wUv (d : Dev nD) : Memref sig .tc .vmem S128x1024 .bf16 := bUv.slice (Rect.unit (s := S128x2048) (k0_off1 d) S128x1024.size (k0_off1_inb d)) (fun _ => rfl)
/-- The rows of the first half of the head outputs that device `d` computes. -/
abbrev wO0 (d : Dev nD) : Memref sig .tc .vmem S1024x512 .bf16 :=
  (mOut.slice (Rect.unit (s := S2x2048x512) (k0_off10 d) S1x1024x512.size (k0_off10_inb d)) (fun _ => rfl)).squeeze S1024x512 squeezes_S1x1024x512_S1024x512
/-- The rows of the second half of the head outputs that device `d` computes. -/
abbrev wO1 (d : Dev nD) : Memref sig .tc .vmem S1024x512 .bf16 :=
  (mOut.slice (Rect.unit (s := S2x2048x512) (k0_off16 d) S1x1024x512.size (k0_off16_inb d)) (fun _ => rfl)).squeeze S1024x512 squeezes_S1x1024x512_S1024x512

/-! ## Contents -/

variable (m : (ℓ : Loc nD τ sig) → Buf (Elt F) ℓ)

/-- The staged blocks of the arguments. -/
def vX (c : Dev nD) : Vec F S1x1024x2048 .bf16 := (win0_0.blk (0 : Fin 1)).view.read (Elt F) (m ((c : Thread nD τ).loc main_arg0))
/-- The block of the down-projection that a device is given. -/
def vDkv (c : Dev nD) : Vec F S2048x128 .bf16 := (win0_1.blk (0 : Fin 1)).view.read (Elt F) (m ((c : Thread nD τ).loc main_arg1))
/-- The block of the keys' up-projection that a device is given. -/
def vUk (c : Dev nD) : Vec F S128x2048 .bf16 := (win0_2.blk (0 : Fin 1)).view.read (Elt F) (m ((c : Thread nD τ).loc main_arg2))
/-- The block of the values' up-projection that a device is given. -/
def vUv (c : Dev nD) : Vec F S128x2048 .bf16 := (win0_3.blk (0 : Fin 1)).view.read (Elt F) (m ((c : Thread nD τ).loc main_arg3))
/-- The block of the queries' projection that a device is given. -/
def vQ (c : Dev nD) : Vec F S2048x2048 .bf16 := (win0_4.blk (0 : Fin 1)).view.read (Elt F) (m ((c : Thread nD τ).loc main_arg4))
/-- The block of the rotary queries' projection that a device is given. -/
def vQr (c : Dev nD) : Vec F S2048x512 .bf16 := (win0_5.blk (0 : Fin 1)).view.read (Elt F) (m ((c : Thread nD τ).loc main_arg5))
/-- The block of the rotary key's projection that a device is given. -/
def vKr (c : Dev nD) : Vec F S2048x32 .bf16 := (win0_6.blk (0 : Fin 1)).view.read (Elt F) (m ((c : Thread nD τ).loc main_arg6))
/-- The block of the output projection that a device is given. -/
def vO (c : Dev nD) : Vec F S2048x2048 .bf16 := (win0_7.blk (0 : Fin 1)).view.read (Elt F) (m ((c : Thread nD τ).loc main_arg7))

/-- What is sent of the down-projection, and of the two up-projections. -/
def sDkv (c : Dev nD) : Vec F S2048x128 .bf16 := k0_pay2 (vDkv m c)
/-- The keys' up-projection as it is sent from. -/
def sUk (c : Dev nD) : Vec F S128x2048 .bf16 := k0_pay3 (vUk m c)
/-- The values' up-projection as it is sent from. -/
def sUv (c : Dev nD) : Vec F S128x2048 .bf16 := k0_pay4 (vUv m c)
/-- What arrives. -/
def rUk (c : Dev nD) : Vec F S128x1024 .bf16 := (wUk (peer c)).view.read (Elt F) (sUk m (peer c))
/-- The columns of the values' up-projection that arrive from the peer. -/
def rUv (c : Dev nD) : Vec F S128x1024 .bf16 := (wUv (peer c)).view.read (Elt F) (sUv m (peer c))

/-- The read of the own heads' columns of the queries' projection. -/
abbrev ldQ (c : Dev nD) : LoadRect S2048x2048 := (Rect.unit (s := S2048x2048) (k0_off2 c) S2048x1024.size (k0_off2_inb c)).toLoadRect
/-- The read of the own heads' columns of the rotary queries' projection. -/
abbrev ldQr (c : Dev nD) : LoadRect S2048x512 := (Rect.unit (s := S2048x512) (k0_off3 c) S2048x256.size (k0_off3_inb c)).toLoadRect
/-- The read of the own heads' columns of an up-projection. -/
abbrev ldU (c : Dev nD) : LoadRect S128x2048 := (Rect.unit (s := S128x2048) (k0_off4 c) S128x1024.size (k0_off4_inb c)).toLoadRect

/-- The scaled queries of the heads of `c`, transposed, and their rotary parts. -/
def qT (c : Dev nD) : Vec F S1024x1024 .bf16 := k0_pay6 (vX m c) (aQ.view.readAt (Elt F) (ldQ c) (vQ m c))
/-- The transposed rotary queries of the own heads. -/
def qrT (c : Dev nD) : Vec F S256x1024 .bf16 := k0_pay7 (vX m c) (aQr.view.readAt (Elt F) (ldQr c) (vQr m c))
/-- The shared rotary key. -/
def kr (c : Dev nD) : FVec F S1024x32 .bf16 := k0_pay8 (vX m c) (vKr m c)
/-- The two latent halves: from the own and from the peer's down-projection, each also transposed. -/
def c0T (c : Dev nD) : FVec F S128x1024 .bf16 := k0_pay9 (vX m c) (sDkv m c)
/-- The own half of the latent. -/
def c0 (c : Dev nD) : FVec F S1024x128 .bf16 := k0_pay10 (vX m c) (sDkv m c)
/-- The peer's half of the latent, transposed. -/
def c1T (c : Dev nD) : FVec F S128x1024 .bf16 := k0_pay11 (k0_pay5 (vX m c)) (sDkv m (peer c))
/-- The peer's half of the latent. -/
def c1 (c : Dev nD) : FVec F S1024x128 .bf16 := k0_pay12 (k0_pay5 (vX m c)) (sDkv m (peer c))
/-- Keys and transposed values of the heads of `c`. -/
def kk (c : Dev nD) : Vec F S1024x1024 .bf16 := k0_pay13 (c0 m c) (c1 m c) (bUk.view.readAt (Elt F) (ldU c) (sUk m c)) (rUk m c)
/-- The transposed values of the own heads. -/
def vv (c : Dev nD) : Vec F S1024x1024 .bf16 := k0_pay14 (c0T m c) (c1T m c) (bUv.view.readAt (Elt F) (ldU c) (sUv m c)) (rUv m c)

/-- The first loop has eight trips. -/
theorem trips1 : k0_t1_loop.trips = 8 := by decide
/-- The second loop has eight trips. -/
theorem trips2 : k0_t2_loop.trips = 8 := by decide

/-- What the first loop stores for head `t` of device `c`: the head's output at the first 512 positions. -/
def oh0 (c : Dev nD) (t : Fin k0_t1_loop.trips) : FVec F S1x128x512 .bf16 :=
  k0_pay15 (kr m c)
    (mK.view.readAt (Elt F) (Rect.unit (s := S1024x1024) (k0_off5 t) S1024x128.size (k0_off5_inb t)).toLoadRect (kk m c))
    (mQ.view.readAt (Elt F) (Rect.unit (s := S1024x1024) (k0_off6 t) S128x512.size (k0_off6_inb t)).toLoadRect (qT m c))
    (mQr.view.readAt (Elt F) (Rect.unit (s := S256x1024) (k0_off7 t) S32x512.size (k0_off7_inb t)).toLoadRect (qrT m c))
    (mV.view.readAt (Elt F) (Rect.unit (s := S1024x1024) (k0_off8 t) S128x1024.size (k0_off8_inb t)).toLoadRect (vv m c))

/-- What the second loop stores for head `t` of device `c`: the head's output at the last 512 positions. -/
def oh1 (c : Dev nD) (t : Fin k0_t2_loop.trips) : FVec F S1x128x512 .bf16 :=
  k0_pay16 (kr m c)
    (mK.view.readAt (Elt F) (Rect.unit (s := S1024x1024) (k0_off11 t) S1024x128.size (k0_off11_inb t)).toLoadRect (kk m c))
    (mQ.view.readAt (Elt F) (Rect.unit (s := S1024x1024) (k0_off12 t) S128x512.size (k0_off12_inb t)).toLoadRect (qT m c))
    (mQr.view.readAt (Elt F) (Rect.unit (s := S256x1024) (k0_off13 t) S32x512.size (k0_off13_inb t)).toLoadRect (qrT m c))
    (mV.view.readAt (Elt F) (Rect.unit (s := S1024x1024) (k0_off14 t) S128x1024.size (k0_off14_inb t)).toLoadRect (vv m c))

/-- The one of the pair of `c` whose first coordinate is `a`. -/
def half (c : Dev nD) (a : ℕ) : Dev nD := if a = c.val / 16 then c else peer c

set_option backward.proofsInPublic true in
/-- A position of the 1 x 128 x 512 block of a head. -/
def ixH (r s : ℕ) : S1x128x512.Idx := fun a => match a with
  | ⟨0, _⟩ => ⟨0, Nat.one_pos⟩
  | ⟨1, _⟩ => ⟨r % 128, Nat.mod_lt _ (by decide)⟩
  | ⟨2, _⟩ => ⟨s % 512, Nat.mod_lt _ (by decide)⟩

set_option backward.proofsInPublic true in
/-- All head outputs of the pair of `c`: half `j` of the positions, row `r` of the 2048 rows of all heads, position `s`. -/
def oAll (c : Dev nD) : Vec F S2x2048x512 .bf16 := fun i =>
  let d := half c ((i 1).val / 1024)
  if (i 0).val = 0 then oh0 m d ⟨(i 1).val % 1024 / 128, by rw [trips1]; omega⟩ (ixH (i 1).val (i 2).val)
  else oh1 m d ⟨(i 1).val % 1024 / 128, by rw [trips2]; omega⟩ (ixH (i 1).val (i 2).val)

/-- The final contents of a half of the head outputs are the same on both devices of a pair. -/
theorem half_peer (c : Dev nD) (a : ℕ) (ha : a ≤ 1) : half (peer c) a = half c a := by
  unfold half
  have h1 := peer_div c
  have h2 := dev_div c
  rw [peer_peer]
  by_cases h : a = c.val / 16
  · rw [if_pos h, if_neg (by omega)]
  · rw [if_neg h, if_pos (by omega)]

/-- The two of a pair agree on the head outputs. -/
theorem oAll_peer (c : Dev nD) : oAll m (peer c) = oAll m c := by
  funext i
  have h : (i 1).val / 1024 ≤ 1 := by have : (i 1).val < 2048 := (i 1).isLt; omega
  unfold oAll
  simp only [half_peer c _ h]

/-- The output block: its two halves of 512 rows, one store each. -/
abbrev r8a : Rect S1x1024x2048 := Rect.unit (s := S1x1024x2048) ![0, 0, 0] S1x512x2048.size inb_S1x1024x2048_S1x512x2048_0_0_0
/-- The second half of the rows of the result. -/
abbrev r8b : Rect S1x1024x2048 := Rect.unit (s := S1x1024x2048) ![0, 512, 0] S1x512x2048.size inb_S1x1024x2048_S1x512x2048_0_512_0
/-- The read of the heads' outputs at the first half of the rows. -/
abbrev r19a : LoadRect S2x2048x512 := (Rect.unit (s := S2x2048x512) ![0, 0, 0] S1x2048x512.size inb_S2x2048x512_S1x2048x512_0_0_0).toLoadRect
/-- The read of the heads' outputs at the second half of the rows. -/
abbrev r19b : LoadRect S2x2048x512 := (Rect.unit (s := S2x2048x512) ![1, 0, 0] S1x2048x512.size inb_S2x2048x512_S1x2048x512_1_0_0).toLoadRect

/-- The two stored halves. -/
def outA (c : Dev nD) : FVec F S1x512x2048 .bf16 := k0_pay17 (mOut.view.readAt (Elt F) r19a (oAll m c)) (vO m c)
/-- The second half of the result. -/
def outB (c : Dev nD) : FVec F S1x512x2048 .bf16 := k0_pay1 (mOut.view.readAt (Elt F) r19b (oAll m c)) (vO m c)

set_option backward.proofsInPublic true in
/-- A position of a half of the output block. -/
def ixO (r s : ℕ) : S1x512x2048.Idx := fun a => match a with
  | ⟨0, _⟩ => ⟨0, Nat.one_pos⟩
  | ⟨1, _⟩ => ⟨r % 512, Nat.mod_lt _ (by decide)⟩
  | ⟨2, _⟩ => ⟨s % 2048, Nat.mod_lt _ (by decide)⟩

/-- The kernel's result on device `c`. -/
def outAt (c : Dev nD) : Vec F S1x1024x2048 .bf16 := fun i =>
  if (i 1).val < 512 then outA m c (ixO (i 1).val (i 2).val) else outB m c (ixO (i 1).val (i 2).val)

end Cert.KProof

end
-- ==== Proof.Protocol.lean ====
/-
  The exchange between the two devices of a pair: the eleven semaphore cells of a device, what each of them hands over,
  what a device owes, the order of the waits, and the two rules that the body uses again and again (an addressed
  transfer to the peer, and a wait on an own cell).
-/
module

public import proofs.«01_k».proof.Proof.Contents

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

/-- The ghost state of the exchange's rounds. -/
abbrev UB : Type := URounds (GSem nD τ sig) Unit
/-- The ghost states of the pipeline and of the exchange. -/
abbrev UU : Type := UR sig nD τ × UB

local notation "𝕄" => MT nD τ sig Unit (Elt F) ℕ UU ℕ

/-- The pipeline's ghost state inside the whole. -/
abbrev EP : Emb (UR sig nD τ) (MT nD τ sig Unit (Elt F) ℕ UU ℕ) := embL
/-- The exchange's ghost state inside the whole. -/
abbrev ER : Emb UB (MT nD τ sig Unit (Elt F) ℕ UU ℕ) := embR
/-- No loop needs a variant. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The barrier semaphore. -/
abbrev barS : Sem sig := (SemArray.scalar (sig.barrier 0 rfl) : Sems sig S_).sem
/-- The send semaphore of projection transfer 0. -/
abbrev sWs0 : DmaSems sig S_ := (cc0_scratch11.slice (Rect.unit (s := S3) ![0] S1.size inb_S3_S1_0)).squeeze S_ squeezes_S1_S_
/-- The send semaphore of projection transfer 1. -/
abbrev sWs1 : DmaSems sig S_ := (cc0_scratch11.slice (Rect.unit (s := S3) ![1] S1.size inb_S3_S1_1)).squeeze S_ squeezes_S1_S_
/-- The send semaphore of projection transfer 2. -/
abbrev sWs2 : DmaSems sig S_ := (cc0_scratch11.slice (Rect.unit (s := S3) ![2] S1.size inb_S3_S1_2)).squeeze S_ squeezes_S1_S_
/-- The receive semaphore of projection transfer 0. -/
abbrev sWr0 : DmaSems sig S_ := (cc0_scratch12.slice (Rect.unit (s := S3) ![0] S1.size inb_S3_S1_0)).squeeze S_ squeezes_S1_S_
/-- The receive semaphore of projection transfer 1. -/
abbrev sWr1 : DmaSems sig S_ := (cc0_scratch12.slice (Rect.unit (s := S3) ![1] S1.size inb_S3_S1_1)).squeeze S_ squeezes_S1_S_
/-- The receive semaphore of projection transfer 2. -/
abbrev sWr2 : DmaSems sig S_ := (cc0_scratch12.slice (Rect.unit (s := S3) ![2] S1.size inb_S3_S1_2)).squeeze S_ squeezes_S1_S_
/-- The send semaphore of the heads' output transfer 0. -/
abbrev sOs0 : DmaSems sig S_ := (cc0_scratch13.slice (Rect.unit (s := S2) ![0] S1.size inb_S2_S1_0)).squeeze S_ squeezes_S1_S_
/-- The send semaphore of the heads' output transfer 1. -/
abbrev sOs1 : DmaSems sig S_ := (cc0_scratch13.slice (Rect.unit (s := S2) ![1] S1.size inb_S2_S1_1)).squeeze S_ squeezes_S1_S_
/-- The receive semaphore of the heads' output transfer 0. -/
abbrev sOr0 : DmaSems sig S_ := (cc0_scratch14.slice (Rect.unit (s := S2) ![0] S1.size inb_S2_S1_0)).squeeze S_ squeezes_S1_S_
/-- The receive semaphore of the heads' output transfer 1. -/
abbrev sOr1 : DmaSems sig S_ := (cc0_scratch14.slice (Rect.unit (s := S2) ![1] S1.size inb_S2_S1_1)).squeeze S_ squeezes_S1_S_

set_option backward.proofsInPublic true in
/-- The cells: the barrier (0); the three weight transfers' send (1 to 3) and receive (4 to 6) semaphores; the two output
    transfers' send (7, 8) and receive (9, 10) semaphores. -/
abbrev csem : Fin 11 → SemLoc sig := fun
  | 0 => .reg barS
  | 1 => .dma (9 : Fin 19) | 2 => .dma (10 : Fin 19) | 3 => .dma (11 : Fin 19)
  | 4 => .dma (12 : Fin 19) | 5 => .dma (13 : Fin 19) | 6 => .dma (14 : Fin 19)
  | 7 => .dma (15 : Fin 19) | 8 => .dma (16 : Fin 19)
  | 9 => .dma (17 : Fin 19) | 10 => .dma (18 : Fin 19)
/-- A cell of a device by its number. -/
abbrev kcell (ck : Dev nD × Fin 11) : GSem nD τ sig := ((ck.1 : Thread nD τ), csem ck.2)

/-- The number of the send semaphore of projection transfer 0. -/
theorem sWs0_eq : sWs0.sem = (9 : Fin 19) := by decide
/-- The number of the send semaphore of projection transfer 1. -/
theorem sWs1_eq : sWs1.sem = (10 : Fin 19) := by decide
/-- The number of the send semaphore of projection transfer 2. -/
theorem sWs2_eq : sWs2.sem = (11 : Fin 19) := by decide
/-- The number of the receive semaphore of projection transfer 0. -/
theorem sWr0_eq : sWr0.sem = (12 : Fin 19) := by decide
/-- The number of the receive semaphore of projection transfer 1. -/
theorem sWr1_eq : sWr1.sem = (13 : Fin 19) := by decide
/-- The number of the receive semaphore of projection transfer 2. -/
theorem sWr2_eq : sWr2.sem = (14 : Fin 19) := by decide
/-- The number of the send semaphore of the heads' output transfer 0. -/
theorem sOs0_eq : sOs0.sem = (15 : Fin 19) := by decide
/-- The number of the send semaphore of the heads' output transfer 1. -/
theorem sOs1_eq : sOs1.sem = (16 : Fin 19) := by decide
/-- The number of the receive semaphore of the heads' output transfer 0. -/
theorem sOr0_eq : sOr0.sem = (17 : Fin 19) := by decide
/-- The number of the receive semaphore of the heads' output transfer 1. -/
theorem sOr1_eq : sOr1.sem = (18 : Fin 19) := by decide

set_option backward.proofsInPublic true in
/-- Which of the eleven cells a semaphore is. -/
def idx : SemLoc sig → Option (Fin 11)
  | .reg s => if s = barS then some 0 else none
  | .dma q => if 9 ≤ q.val then some ⟨(q.val - 8) % 11, Nat.mod_lt _ (by decide)⟩ else none

/-- The number of a cell is found again from its semaphore. -/
theorem idx_csem : ∀ k, idx (csem k) = some k := by decide

/-! ## What each cell counts and hands over -/

/-- The credit of a transfer of the down-projection, of a half up-projection, of a half head output. -/
def nDkv : ℕ := pDkv.view.dmaCredit
/-- The units of a transfer of up-projection columns. -/
def nU : ℕ := pUk.view.dmaCredit
/-- The units of a transfer of heads' outputs. -/
def nO : ℕ := (wO0 (0 : Dev nD)).view.dmaCredit

/-- A transfer of the down-projection has units. -/
theorem nDkv_pos : 0 < nDkv := View.dmaCredit_pos _ (by decide)
/-- A transfer of columns has units. -/
theorem nU_pos : 0 < nU := View.dmaCredit_pos _ (by decide)
/-- A transfer of heads' outputs has units. -/
theorem nO_pos : 0 < nO := View.dmaCredit_pos _ (by decide)

/-- The amount that a round of a cell counts. -/
def amt : Fin 11 → ℕ := fun
  | 0 => 1 | 1 => nDkv | 4 => nDkv | 2 => nU | 3 => nU | 5 => nU | 6 => nU | _ => nO

/-- Every cell receives units. -/
theorem amt_pos (k : Fin 11) : 0 < amt k := by
  fin_cases k <;> first | exact Nat.one_pos | exact nDkv_pos | exact nU_pos | exact nO_pos

/-- A view's elements on device `c`, at the share `q`, holding `f`. -/
abbrev pv {s : Shape} {e : EltTy} (M : Memref sig .tc .vmem s e) (c : Dev nD) (q : PosShare TreeShare)
    (f : Buf (Elt F) (M.view.loc (c : Thread nD τ))) : sProp 𝕄 :=
  M.view.loc (c : Thread nD τ) ↦[M.view.set]{q} f

/-- A view's elements on device `c`, owned at some contents: a place where a transfer may land. -/
def land {s : Shape} {e : EltTy} (M : Memref sig .tc .vmem s e) (c : Dev nD) : sProp 𝕄 := iprop(∃ f, pv M c fullShare f)

/-- What a landing hands over can be stored in an invariant. -/
instance land_storable {s : Shape} {e : EltTy} (M : Memref sig .tc .vmem s e) (c : Dev nD) :
    BI.Storable (upEmb : UEmb _ 𝕄) (land (F := F) M c) := by unfold land; infer_instance

/-- What a cell of device `c` hands over. The barrier: the peer's landing places. A send cell: the source's share back.
    A receive cell: the landing place holding what the peer sent. -/
def pay (k : Fin 11) (c : Dev nD) : sProp 𝕄 := match k with
  | 0 => iprop(land pDkv (peer c) ∗ land pUk (peer c) ∗ land pUv (peer c) ∗ land (wO0 c) (peer c) ∗ land (wO1 c) (peer c))
  | 1 => pv bDkv c fullShare.right (sDkv m c)
  | 2 => pv (wUk c) c fullShare (sUk m c)
  | 3 => pv (wUv c) c fullShare (sUv m c)
  | 4 => pv pDkv c fullShare (sDkv m (peer c))
  | 5 => pv pUk c fullShare (rUk m c)
  | 6 => pv pUv c fullShare (rUv m c)
  | 7 => pv (wO0 c) c fullShare.right (oAll m c)
  | 8 => pv (wO1 c) c fullShare.right (oAll m c)
  | 9 => pv (wO0 (peer c)) c fullShare (oAll m c)
  | 10 => pv (wO1 (peer c)) c fullShare (oAll m c)

/-- A window with contents can be stored in an invariant. -/
instance pv_storable {s : Shape} {e : EltTy} (M : Memref sig .tc .vmem s e) (c : Dev nD) (q : PosShare TreeShare)
    (f : Buf (Elt F) (M.view.loc (c : Thread nD τ))) : BI.Storable (upEmb : UEmb _ 𝕄) (pv M c q f) := by infer_instance

/-- Every payload can be stored in an invariant. -/
instance pay_storable (k : Fin 11) (c : Dev nD) : BI.Storable (upEmb : UEmb _ 𝕄) (pay m k c) := by
  unfold pay; split <;> infer_instance

/-! ## The schedule: one round, one duty, at each cell -/

/-- The schedule: one round in each cell, with one duty. -/
def rd : Rounds.Schedule (GSem nD τ sig) Unit 𝕄 where
  duties g r := if r = 0 ∧ g.1.2 = .tc ∧ (idx g.2).isSome then {()} else ∅
  unitless _ := False
  amount g _ _ := match idx g.2 with | none => 1 | some k => amt k
  payload g _ _ := match idx g.2 with | none => iprop(emp) | some k => pay m k g.1.1
  amount_pos g _ _ _ := by split; exacts [Nat.one_pos, amt_pos _]

/-- Every payload of the schedule can be stored in an invariant. -/
instance rd_payload_storable (g : GSem nD τ sig) (r : ℕ) (d : Unit) : BI.Storable (upEmb : UEmb _ 𝕄) ((rd m).payload g r d) := by
  show BI.Storable upEmb (match idx g.2 with | none => iprop(emp) | some k => pay m k g.1.1)
  split <;> infer_instance

/-- The one duty of a cell in its round. -/
theorem duties_at (c : Dev nD) (k : Fin 11) : (rd m).duties (kcell (c, k)) 0 = {()} := by
  dsimp only [rd]; exact if_pos ⟨rfl, rfl, by rw [idx_csem]; rfl⟩
/-- The duty belongs to its round. -/
theorem duties_mem (c : Dev nD) (k : Fin 11) : () ∈ (rd m).duties (kcell (c, k)) 0 := by rw [duties_at]; exact Finset.mem_singleton_self _
/-- There are no later rounds. -/
theorem duties_later (g : GSem nD τ sig) : ∀ r, 1 ≤ r → (rd m).duties g r = ∅ :=
  fun r hr => by dsimp only [rd]; rw [if_neg fun h => by omega]
/-- The units of a cell's duty. -/
theorem amount_at (c : Dev nD) (k : Fin 11) : (rd m).amount (kcell (c, k)) 0 () = amt k := by
  show (match idx (csem k) with | none => 1 | some k => amt k) = amt k
  rw [idx_csem]
/-- The payload of a cell's duty. -/
theorem payload_at (c : Dev nD) (k : Fin 11) (d : Unit) : (rd m).payload (kcell (c, k)) 0 d = pay m k c := by
  show (match idx (csem k) with | none => iprop(emp) | some k => pay m k c) = pay m k c
  rw [idx_csem]
/-- A round waits for exactly its one duty. -/
theorem expect_at (c : Dev nD) (k : Fin 11) : (rd m).expect (kcell (c, k)) 0 = amt k := by
  unfold Schedule.expect Schedule.amountOf; rw [duties_at, Finset.sum_singleton, amount_at]
/-- What a wait on a whole round hands over. -/
theorem rest_at (c : Dev nD) (k : Fin 11) :
    bigSep ((rd m).duties (kcell (c, k)) 0 \ ∅) (fun d => (rd m).payload (kcell (c, k)) 0 d) = pay m k c := by
  rw [Finset.sdiff_empty, duties_at, bigSep_singleton, payload_at]

/-! ## What a device owes, and the levels -/

/-- The tally of one round at each of the listed cells of device `t`. -/
def due (t : Dev nD) : List (Fin 11) → CellTallies nD τ sig Unit
  | [] => 0
  | k :: l => due t l + tallyAt (kcell (t, k)) () (amt k)

/-- What a device pays in all: its peer's barrier and its peer's receive cells, in the order of its payments. -/
abbrev dues : List (Fin 11) := [0, 4, 5, 6, 9, 10]

/-- The tags of a cell. -/
def L (g : GSem nD τ sig) : Finset Unit := if g.1.2 = .tc then {()} else ∅
/-- The levels of the eleven cells: the barrier, then the weights' receive cells, then the outputs' receive cells; a send
    cell, whose own device pays it, and every other cell are at the bottom. -/
def lvk : Fin 11 → ℕ := fun | 0 => 1 | 4 => 2 | 5 => 2 | 6 => 2 | 9 => 3 | 10 => 3 | _ => 0
/-- The level of a cell number, 0 for other cells. -/
def lvo : Option (Fin 11) → ℕ | none => 0 | some k => lvk k
/-- The level of a cell. -/
def lv (g : GSem nD τ sig) (_ : Unit) : ℕ := lvo (idx g.2)

/-- A cell of no core has no tags. -/
theorem L_of_ne (g : GSem nD τ sig) (h : g.1.2 ≠ .tc) : L g = ∅ := if_neg h
/-- A core's cell has one tag. -/
theorem L_tc (c : Dev nD) (sm : SemLoc sig) : L ((c : Thread nD τ), sm) = {()} := if_pos rfl

/-- A positive debt names a cell that is still owed. -/
theorem due_pos {t : Dev nD} {g : GSem nD τ sig} {u : Unit} : ∀ {l : List (Fin 11)}, 0 < due t l g u → ∃ k ∈ l, g = kcell (t, k)
  | [], h => absurd h (Nat.lt_irrefl 0)
  | k :: l, h => by
    unfold due at h
    rw [Pi.add_apply, Finsupp.add_apply, tallyAt_apply] at h
    by_cases hk : g = kcell (t, k) ∧ u = ()
    · exact ⟨k, List.mem_cons_self, hk.1⟩
    · rw [if_neg hk, Nat.add_zero] at h
      obtain ⟨k', h1, h2⟩ := due_pos h
      exact ⟨k', List.mem_cons_of_mem _ h1, h2⟩

/-- A device may wait on a cell whose level is below the levels of all that it still owes. -/
theorem mayWait (c t : Dev nD) (sm : SemLoc sig) (l : List (Fin 11)) (h : ∀ k ∈ l, lvo (idx sm) < lvk k) :
    (levAts L lv : sProp 𝕄) ⊢ MayWait (c : Thread nD τ) sm () (due t l) :=
  MayOwe.of_cut (L := L) (lev := lv) (lvo (idx sm)) (fun p hp => by rw [Finset.mem_singleton.mp hp, L_tc]; exact Finset.mem_singleton_self _)
    (fun g u hg => by
      obtain ⟨k, -, rfl⟩ := due_pos hg
      rw [L_tc]; exact Finset.mem_singleton_self _)
    (fun p hp => by rw [Finset.mem_singleton.mp hp]; exact le_refl _)
    (fun g u hg => by
      obtain ⟨k, hk, rfl⟩ := due_pos hg
      have : lv (kcell (t, k)) u = lvk k := by show lvo (idx (csem k)) = lvk k; rw [idx_csem]; rfl
      rw [this]; exact h k hk)

/-! ## What every device knows -/

/-- The invariants of all cells, at the names `K`, and that all stand at round 0 at least. -/
def records (K : Dev nD × Fin 11 → ℕ) : sProp 𝕄 :=
  iprop((bigSep Finset.univ fun ck : Dev nD × Fin 11 => cellInv ER (rd m) (K ck) (kcell ck))
    ∗ bigSep Finset.univ fun ck : Dev nD × Fin 11 => reached ER (kcell ck) 0)

/-- The records may be used again and again. -/
instance records_persistent (K : Dev nD × Fin 11 → ℕ) : BI.Persistent (records m K) := by unfold records; infer_instance

/-- The invariant of each cell is in the records. -/
theorem inv_all (K : Dev nD × Fin 11 → ℕ) (ck : Dev nD × Fin 11) :
    (bigSep Finset.univ fun ck : Dev nD × Fin 11 => (cellInv ER (rd m) (K ck) (kcell ck) : sProp 𝕄)) ⊢ cellInv ER (rd m) (K ck) (kcell ck) :=
  bigSep_elim (Finset.mem_univ ck)
/-- That each cell has reached its round is in the records. -/
theorem reached_all (ck : Dev nD × Fin 11) :
    (bigSep Finset.univ fun ck : Dev nD × Fin 11 => (reached ER (kcell ck) 0 : sProp 𝕄)) ⊢ reached ER (kcell ck) 0 :=
  bigSep_elim (Finset.mem_univ ck)
/-- The invariant of a device's cell is in the records. -/
theorem inv_at (K : Dev nD × Fin 11 → ℕ) (ck : Dev nD × Fin 11) : records m K ⊢ cellInv ER (rd m) (K ck) (kcell ck) := by
  unfold records
  iintro ⟨H, -⟩
  iapply (inv_all m K ck); iexact H
/-- That a device's cell has reached its round is in the records. -/
theorem reached_at (K : Dev nD × Fin 11 → ℕ) (ck : Dev nD × Fin 11) : records m K ⊢ reached ER (kcell ck) 0 := by
  unfold records
  iintro ⟨-, H⟩
  iapply (reached_all (F := F) ck); iexact H

/-! ## The rules of the body -/

/-- What device `c` owes, whatever it has waited for. -/
def ow (c : Dev nD) (l : List (Fin 11)) : sProp 𝕄 := iprop(∃ W, owes (c : Thread nD τ) (due (peer c) l) W)

variable (K : Dev nD × Fin 11 → ℕ)

/-- A transfer to the peer, from a source held at any share into a landing place held in full, that completes on the own
    cell `ks` and on the peer's cell `kr`. -/
theorem wp_send_peer (c n : Dev nD) (hn : n = peer c) (ks kr : Fin 11) (l : List (Fin 11)) {s : Shape} {e : EltTy}
    {src dst : Memref sig .tc .vmem s e} {sS sR : SemLoc sig} (hS : sS = csem ks) (hR : sR = csem kr)
    {hsc : (dst : Memref sig (Dev.tc n : Thread nD τ).2.kind .vmem s e).view.ref.isScScratch = false}
    {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (peer c : Thread nD τ)))
    (hN : dst.view.amount sR = amt kr) (hks : amt ks = amt kr)
    (hp1 : pv src c q fs ⊢ pay m ks c)
    (hp2 : pv dst (peer c) fullShare (dst.view.write (Elt F) fd (src.view.read (Elt F) fs) Finset.univ) ⊢ pay m kr (peer c)) :
    iprop(records m K ∗ pv src c q fs ∗ pv dst (peer c) fullShare fd ∗ ow c (kr :: l)
        ∗ dutyTok ER (kcell (c, ks)) 0 () ∗ dutyTok ER (kcell (peer c, kr)) 0 ())
      ⊢ iprop(((cred (tallyAt (kcell (c, ks)) () (amt ks)) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hS hR
  unfold ow
  iintro ⟨#HR, Hs, Hd, ⟨%W, Ho⟩, Ht1, Ht2⟩ Hk
  iapply (Rounds.wp_send_pointsTo 𝒱₀ ER (rd m) (c : Thread nD τ) none (κ₁ := K (c, ks)) (κ₂ := K (peer c, kr))
    (r₁ := 0) (r₂ := 0) (d₁ := ()) (d₂ := ()) (q := q) (fs := fs) (fd := fd)
    (duties_mem m c ks) (duties_mem m (peer c) kr)
    () () (amt kr) hN ((amount_at m c ks).trans hks) (amount_at m (peer c) kr) (due (peer c) l) rfl (W := W)
    (hp1.trans (Entails.of_eq (payload_at m c ks ()).symm))
    (hp2.trans (Entails.of_eq (payload_at m (peer c) kr ()).symm))) $$ [Hs Hd Ho Ht1 Ht2]
  · isplitr; · iapply (inv_at m K (c, ks)); iexact HR
    isplitr; · iapply (inv_at m K (peer c, kr)); iexact HR
    isplitl [Hs]; · iexact Hs
    isplitl [Hd]; · iexact Hd
    isplitl [Ho]; · iexact Ho
    isplitl [Ht1]; · iexact Ht1
    isplitr; · iapply (reached_at m K (c, ks)); iexact HR
    isplitl [Ht2]; · iexact Ht2
    iapply (reached_at m K (peer c, kr)); iexact HR
  iintro ⟨Hc, Ho⟩
  iapply Hk
  isplitl [Hc]; · rw [hks]; iexact Hc
  iexists W; iexact Ho

/-- A wait on the own cell `k0`, whose round is then over: what the cell hands over, and its counter at zero. -/
theorem wp_wait_own (c : Dev nD) (k0 : Fin 11) (l : List (Fin 11)) (hl : ∀ k ∈ l, lvk k0 < lvk k)
    {w : TpuEff nD τ sig (Elt F) Λ₀ .tc PUnit} {sm : SemLoc sig} (hS : sm = csem k0) {n : ℕ} (hn : n = amt k0)
    (hw : ∀ X : PUnit → sProp 𝕄, wpE (defs₀ (F := F)) 𝒱₀ (c : Thread nD τ) none Set.univ w X = waitSpec (c : Thread nD τ) Set.univ sm n X)
    {α : Type} {Q : α → sProp 𝕄} {k : PUnit → Prog (TpuEff nD τ sig (Elt F) Λ₀ .tc) α} :
    iprop(records m K ∗ levAts L lv ∗ cred (tallyAt (kcell (c, k0)) () (amt k0)) ∗ ow c l ∗ atPos ER (kcell (c, k0)) 0 ∅ 0)
      ⊢ iprop(((ow c l ∗ semVal (kcell (c, k0)) 0 ∗ pay m k0 c) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hS hn
  unfold ow
  iintro ⟨#HR, #Hlev, Hc, ⟨%W, Ho⟩, Hat⟩ Hk
  iapply (Rounds.wp_wait_rest_token 𝒱₀ ER (rd m) (c : Thread nD τ) none (κ := K (c, k0)) hw (Set.mem_univ _) ()
      (O := due (peer c) l) (W := W) (R := 0) (m := 0) (T := ∅) (by rw [Nat.zero_add, expect_at])) $$ [Hc Ho Hat]
  · isplitr; · iapply (inv_at m K (c, k0)); iexact HR
    isplitl [Hc]; · iexact Hc
    isplitl [Ho]; · iexact Ho
    isplitr
    · iapply (mayWait c (peer c) (csem k0) l (fun k hk => by rw [idx_csem]; exact hl k hk)); iexact Hlev
    iexact Hat
  iintro ⟨Ho, Hat, -, Hpay⟩
  ihave Hp := (Entails.of_eq (rest_at m c k0)) $$ Hpay
  imod (Rounds.cell_close ER (rd m) (Set.mem_univ (K (c, k0))) (fun h => h) (R := 0 + 1) (duties_later m (kcell (c, k0)))) $$ [Hat] with Hz
  · isplitr; · iapply (inv_at m K (c, k0)); iexact HR
    iexact Hat
  iapply Hk
  isplitl [Ho]; · iexists _; iexact Ho
  isplitl [Hz] <;> iassumption

end Cert.KProof

end
-- ==== Proof.Geometry.lean ====
/-
  The windows of the exchanged buffers: which elements each of them has, how a whole buffer splits into them and is put
  together again, and how a share splits into its two halves.
-/
module

public import proofs.«01_k».proof.Proof.Protocol
public import Idealize.ShloMosaic.Lib.Pipeline.ValueKit.Geometry
public import Idealize.ShloMosaic.Lib.ViewIndex

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Shares -/

/-- A full share of some elements is its two halves. -/
theorem halves (ℓ : Loc nD τ sig) (I : Finset (Idx ℓ)) (f : Buf (Elt F) ℓ) :
    (ℓ ↦[I]{fullShare} f : sProp 𝕄) ⊣⊢ iprop((ℓ ↦[I]{fullShare.left} f) ∗ ℓ ↦[I]{fullShare.right} f) :=
  pointsTo_share (PosShare.mem_left_op_right fullShare)

/-! ## Whole buffers -/

/-- The elements of a whole buffer are all elements. -/
theorem pv_whole (b : Ref sig .tc) (c : Dev nD) (q : PosShare TreeShare) (f : Buf (Elt F) ((c : Thread nD τ).loc b)) :
    ((View.whole b).loc (c : Thread nD τ) ↦[(View.whole b).set]{q} f : sProp 𝕄) = (((c : Thread nD τ).loc b) ↦{q} f) := by
  rw [View.set_whole]

/-! ## The four windows of the head outputs -/

/-- Which elements the window of a device's heads has at the first half. -/
theorem mem_wO0 (d : Dev nD) (i : S2x2048x512.Idx) :
    Iff (i ∈ (wO0 d).view.set) ((i 0).val = 0 ∧ (i 1).val / 1024 = d.val / 16) := by
  have hd := dev_div d
  have h0 : (i 0).val < 2 := (i 0).isLt
  have h1 : (i 1).val < 2048 := (i 1).isLt
  have h2 : (i 2).val < 512 := (i 2).isLt
  have hs : (wO0 d).view.set = (Rect.unit (s := S2x2048x512) (k0_off10 d) S1x1024x512.size (k0_off10_inb d)).set :=
    (View.set_reshape _ _).trans (View.set_slice_whole cc0_scratch10 _)
  rw [hs, Rect.mem_set_unit, ValueKit.forall_fin_iff_conj]
  simp only [ValueKit.finConj, k0_off10_eq]
  simp [S1x1024x512]
  omega

/-- Which elements the window of a device's heads has at the second half. -/
theorem mem_wO1 (d : Dev nD) (i : S2x2048x512.Idx) :
    Iff (i ∈ (wO1 d).view.set) ((i 0).val = 1 ∧ (i 1).val / 1024 = d.val / 16) := by
  have hd := dev_div d
  have h0 : (i 0).val < 2 := (i 0).isLt
  have h1 : (i 1).val < 2048 := (i 1).isLt
  have h2 : (i 2).val < 512 := (i 2).isLt
  have hs : (wO1 d).view.set = (Rect.unit (s := S2x2048x512) (k0_off16 d) S1x1024x512.size (k0_off16_inb d)).set :=
    (View.set_reshape _ _).trans (View.set_slice_whole cc0_scratch10 _)
  rw [hs, Rect.mem_set_unit, ValueKit.forall_fin_iff_conj]
  simp only [ValueKit.finConj, k0_off16_eq]
  simp [S1x1024x512]
  omega

/-- The own and the peer's window of a half are apart. -/
theorem disj0 (c : Dev nD) : Disjoint (wO0 c).view.set (wO0 (peer c)).view.set := by
  rw [Finset.disjoint_left]
  intro i h h'
  have h := (mem_wO0 c i).1 h
  have h' := (mem_wO0 (peer c) i).1 h'
  have := peer_div c; have := dev_div c; omega

/-- The windows of the two devices of a pair at the second half have no element in common. -/
theorem disj1 (c : Dev nD) : Disjoint (wO1 c).view.set (wO1 (peer c)).view.set := by
  rw [Finset.disjoint_left]
  intro i h h'
  have h := (mem_wO1 c i).1 h
  have h' := (mem_wO1 (peer c) i).1 h'
  have := peer_div c; have := dev_div c; omega

/-- The elements of one half. -/
abbrev half0 (c : Dev nD) : Finset S2x2048x512.Idx := (wO0 c).view.set ∪ (wO0 (peer c)).view.set
/-- The two windows at the second half together. -/
abbrev half1 (c : Dev nD) : Finset S2x2048x512.Idx := (wO1 c).view.set ∪ (wO1 (peer c)).view.set

/-- The two windows at the first half together are that half. -/
theorem mem_half0 (c : Dev nD) (i : S2x2048x512.Idx) : Iff (i ∈ half0 c) ((i 0).val = 0) := by
  have h1 : (i 1).val < 2048 := (i 1).isLt
  have hp := peer_div c; have hd := dev_div c
  rw [half0, Finset.mem_union]
  refine (or_congr (mem_wO0 c i) (mem_wO0 (peer c) i)).trans ?_
  omega

/-- The two windows at the second half together are that half. -/
theorem mem_half1 (c : Dev nD) (i : S2x2048x512.Idx) : Iff (i ∈ half1 c) ((i 0).val = 1) := by
  have h1 : (i 1).val < 2048 := (i 1).isLt
  have hp := peer_div c; have hd := dev_div c
  rw [half1, Finset.mem_union]
  refine (or_congr (mem_wO1 c i) (mem_wO1 (peer c) i)).trans ?_
  omega

/-- The two halves have no element in common. -/
theorem disj01 (c : Dev nD) : Disjoint (half0 c) (half1 c) := by
  rw [Finset.disjoint_left]
  intro i h h'
  have h := (mem_half0 c i).1 h
  have h' := (mem_half1 c i).1 h'
  omega

/-- The two halves are the whole buffer. -/
theorem halves_cover (c : Dev nD) : half0 c ∪ half1 c = Finset.univ := by
  ext i
  have h0 : (i 0).val < 2 := (i 0).isLt
  simp only [Finset.mem_univ, iff_true]
  rw [Finset.mem_union, mem_half0, mem_half1]
  omega

/-- The location of the heads' outputs on a device. -/
abbrev lOut (c : Dev nD) : Loc nD τ sig := (c : Thread nD τ).loc cc0_scratch10

/-- The buffer of the head outputs is its four windows. -/
theorem split_out (c : Dev nD) (q : PosShare TreeShare) (f : Buf (Elt F) (lOut c)) :
    ((lOut c) ↦{q} f : sProp 𝕄)
      ⊢ iprop((pv (wO0 c) c q f ∗ pv (wO0 (peer c)) c q f) ∗ (pv (wO1 c) c q f ∗ pv (wO1 (peer c)) c q f)) := by
  have h : ((lOut c) ↦{q} f : sProp 𝕄) = ((lOut c) ↦[half0 c ∪ half1 c]{q} f) := by rw [halves_cover]
  rw [h]
  exact (pointsTo_union (disj01 c)).1.trans (BI.sep_mono (pointsTo_union (disj0 c)).1 (pointsTo_union (disj1 c)).1)

/-- The two windows of a half, at one valuation, are the half. -/
theorem join0 (c : Dev nD) (q : PosShare TreeShare) (f : Buf (Elt F) (lOut c)) :
    iprop(pv (wO0 c) c q f ∗ pv (wO0 (peer c)) c q f) ⊢ ((lOut c) ↦[half0 c]{q} f : sProp 𝕄) := by
  have h := (pointsTo_union (ℓ := lOut c) (q := q) (f := f) (Val := Elt F) (Ix := Unit) (Name := ℕ) (U := UU) (Lvl := ℕ) (disj0 c)).2
  exact h
/-- The first half splits into the two windows. -/
theorem cut0 (c : Dev nD) (q : PosShare TreeShare) (f : Buf (Elt F) (lOut c)) :
    ((lOut c) ↦[half0 c]{q} f : sProp 𝕄) ⊢ iprop(pv (wO0 c) c q f ∗ pv (wO0 (peer c)) c q f) := (pointsTo_union (disj0 c)).1
/-- The two windows at the second half are put together. -/
theorem join1 (c : Dev nD) (q : PosShare TreeShare) (f : Buf (Elt F) (lOut c)) :
    iprop(pv (wO1 c) c q f ∗ pv (wO1 (peer c)) c q f) ⊢ ((lOut c) ↦[half1 c]{q} f : sProp 𝕄) := by
  have h := (pointsTo_union (ℓ := lOut c) (q := q) (f := f) (Val := Elt F) (Ix := Unit) (Name := ℕ) (U := UU) (Lvl := ℕ) (disj1 c)).2
  exact h
/-- The second half splits into the two windows. -/
theorem cut1 (c : Dev nD) (q : PosShare TreeShare) (f : Buf (Elt F) (lOut c)) :
    ((lOut c) ↦[half1 c]{q} f : sProp 𝕄) ⊢ iprop(pv (wO1 c) c q f ∗ pv (wO1 (peer c)) c q f) := (pointsTo_union (disj1 c)).1

/-- Both halves are the whole buffer. -/
theorem join_out (c : Dev nD) (q : PosShare TreeShare) (f : Buf (Elt F) (lOut c)) :
    iprop(((lOut c) ↦[half0 c]{q} f) ∗ ((lOut c) ↦[half1 c]{q} f)) ⊢ ((lOut c) ↦{q} f : sProp 𝕄) := by
  have h : ((lOut c) ↦{q} f : sProp 𝕄) = ((lOut c) ↦[half0 c ∪ half1 c]{q} f) := by rw [halves_cover]
  rw [h]
  exact (pointsTo_union (disj01 c)).2

/-! ## The sent columns -/

/-- The location of the keys' up-projection that is sent from. -/
abbrev lUk (c : Dev nD) : Loc nD τ sig := (c : Thread nD τ).loc cc0_scratch4
/-- The location of the values' up-projection that is sent from. -/
abbrev lUv (c : Dev nD) : Loc nD τ sig := (c : Thread nD τ).loc cc0_scratch5

/-- The first staged up-projection is the sent columns and the rest. -/
theorem split_uk (c : Dev nD) (q : PosShare TreeShare) (f : Buf (Elt F) (lUk c)) :
    ((lUk c) ↦{q} f : sProp 𝕄) ⊣⊢ iprop(pv (wUk c) c q f ∗ ((lUk c) ↦[Finset.univ \ (wUk c).view.set]{q} f)) :=
  pointsTo_split_subset (Finset.subset_univ _)
/-- The values' up-projection splits into the columns that are sent and the others. -/
theorem split_uv (c : Dev nD) (q : PosShare TreeShare) (f : Buf (Elt F) (lUv c)) :
    ((lUv c) ↦{q} f : sProp 𝕄) ⊣⊢ iprop(pv (wUv c) c q f ∗ ((lUv c) ↦[Finset.univ \ (wUv c).view.set]{q} f)) :=
  pointsTo_split_subset (Finset.subset_univ _)

/-! ## What lands -/

/-- What lands in a window, read from the same window of another device's buffer, is that buffer's contents there. -/
theorem land_window {c : Dev nD} {s : Shape} {e : EltTy} (M : Memref sig .tc .vmem s e) (fd X : Buf (Elt F) (M.view.loc (c : Thread nD τ))) :
    (pv M c fullShare (M.view.write (Elt F) fd (M.view.read (Elt F) X) Finset.univ) : sProp 𝕄) = pv M c fullShare X := by
  refine pointsTo_congr fun i hi => ?_
  obtain ⟨x, -, rfl⟩ := Finset.mem_map.mp hi
  refine View.eq_of_read_eq ?_
  rw [View.read_write_univ]

end Cert.KProof

end
-- ==== Proof.Whole.lean ====
/-
  The parts of the kernel's body on whole buffers: their programs, and what reading and writing a whole buffer gives.
-/
module

public import proofs.«01_k».proof.Proof.Geometry

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- Part 1 of the body, on the launch's buffers. -/
abbrev prog1 := k0_part1 (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14
/-- Part 2 of the body, on the launch's buffers. -/
abbrev prog2 := k0_part2 (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14
/-- Part 3 of the body, on the launch's buffers. -/
abbrev prog3 := k0_part3 (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14
/-- Part 4 of the body, on the launch's buffers. -/
abbrev prog4 := k0_part4 (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14
/-- Part 5 of the body, on the launch's buffers. -/
abbrev prog5 := k0_part5 (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14
/-- Part 6 of the body, on the launch's buffers. -/
abbrev prog6 := k0_part6 (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14
/-- Part 7 of the body, on the launch's buffers. -/
abbrev prog7 := k0_part7 (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14

/-- A whole buffer held at a share. -/
abbrev pb (b : Ref sig .tc) (c : Dev nD) (q : PosShare TreeShare) (f : Buf (Elt F) ((c : Thread nD τ).loc b)) : sProp 𝕄 :=
  ((c : Thread nD τ).loc b) ↦{q} f

/-- A whole buffer held with any contents. -/
abbrev anyb (b : Ref sig .tc) (c : Dev nD) : sProp 𝕄 := iprop(∃ f, pb b c fullShare f)

/-- The weakest precondition of a program of device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Two zero offsets are the zero function. -/
theorem hz2 : (![0, 0] : Fin 2 → Nat) = fun _ => 0 := funext fun a => by fin_cases a <;> rfl
/-- Three zero offsets are the zero function. -/
theorem hz3 : (![0, 0, 0] : Fin 3 → Nat) = fun _ => 0 := funext fun a => by fin_cases a <;> rfl

/-! ## Reading and writing whole buffers -/

/-- Reading all of the buffer of the staged input gives its contents. -/
theorem rd_aX (f : (cc0_stg0_0 : Ref sig .tc).ty.Contents (Elt F)) (inb) :
    aX.view.readAt (Elt F) (Rect.unit (s := S1x1024x2048) ![0, 0, 0] S1x1024x2048.size inb).toLoadRect f = f :=
  Memref.readAt_unit_zero (Elt F) cc0_stg0_0 hz3 _ f
/-- Reading all of the buffer of the staged down-projection gives its contents. -/
theorem rd_aDkv (f : (cc0_stg1_0 : Ref sig .tc).ty.Contents (Elt F)) (inb) :
    aDkv.view.readAt (Elt F) (Rect.unit (s := S2048x128) ![0, 0] S2048x128.size inb).toLoadRect f = f :=
  Memref.readAt_unit_zero (Elt F) cc0_stg1_0 hz2 _ f
/-- Reading all of the buffer of the staged keys' up-projection gives its contents. -/
theorem rd_aUk (f : (cc0_stg2_0 : Ref sig .tc).ty.Contents (Elt F)) (inb) :
    aUk.view.readAt (Elt F) (Rect.unit (s := S128x2048) ![0, 0] S128x2048.size inb).toLoadRect f = f :=
  Memref.readAt_unit_zero (Elt F) cc0_stg2_0 hz2 _ f
/-- Reading all of the buffer of the staged values' up-projection gives its contents. -/
theorem rd_aUv (f : (cc0_stg3_0 : Ref sig .tc).ty.Contents (Elt F)) (inb) :
    aUv.view.readAt (Elt F) (Rect.unit (s := S128x2048) ![0, 0] S128x2048.size inb).toLoadRect f = f :=
  Memref.readAt_unit_zero (Elt F) cc0_stg3_0 hz2 _ f
/-- Reading all of the buffer of the staged rotary key's projection gives its contents. -/
theorem rd_aKr (f : (cc0_stg6_0 : Ref sig .tc).ty.Contents (Elt F)) (inb) :
    aKr.view.readAt (Elt F) (Rect.unit (s := S2048x32) ![0, 0] S2048x32.size inb).toLoadRect f = f :=
  Memref.readAt_unit_zero (Elt F) cc0_stg6_0 hz2 _ f
/-- Reading all of the buffer of the staged output projection gives its contents. -/
theorem rd_aO (f : (cc0_stg7_0 : Ref sig .tc).ty.Contents (Elt F)) (inb) :
    aO.view.readAt (Elt F) (Rect.unit (s := S2048x2048) ![0, 0] S2048x2048.size inb).toLoadRect f = f :=
  Memref.readAt_unit_zero (Elt F) cc0_stg7_0 hz2 _ f
/-- Reading all of the buffer of the peer's down-projection gives its contents. -/
theorem rd_pDkv (f : (cc0_scratch0 : Ref sig .tc).ty.Contents (Elt F)) (inb) :
    pDkv.view.readAt (Elt F) (Rect.unit (s := S2048x128) ![0, 0] S2048x128.size inb).toLoadRect f = f :=
  Memref.readAt_unit_zero (Elt F) cc0_scratch0 hz2 _ f
/-- Reading all of the buffer of the peer's columns of the keys' up-projection gives its contents. -/
theorem rd_pUk (f : (cc0_scratch1 : Ref sig .tc).ty.Contents (Elt F)) (inb) :
    pUk.view.readAt (Elt F) (Rect.unit (s := S128x1024) ![0, 0] S128x1024.size inb).toLoadRect f = f :=
  Memref.readAt_unit_zero (Elt F) cc0_scratch1 hz2 _ f
/-- Reading all of the buffer of the peer's columns of the values' up-projection gives its contents. -/
theorem rd_pUv (f : (cc0_scratch2 : Ref sig .tc).ty.Contents (Elt F)) (inb) :
    pUv.view.readAt (Elt F) (Rect.unit (s := S128x1024) ![0, 0] S128x1024.size inb).toLoadRect f = f :=
  Memref.readAt_unit_zero (Elt F) cc0_scratch2 hz2 _ f
/-- Reading all of the buffer of the own down-projection that is sent gives its contents. -/
theorem rd_bDkv (f : (cc0_scratch3 : Ref sig .tc).ty.Contents (Elt F)) (inb) :
    bDkv.view.readAt (Elt F) (Rect.unit (s := S2048x128) ![0, 0] S2048x128.size inb).toLoadRect f = f :=
  Memref.readAt_unit_zero (Elt F) cc0_scratch3 hz2 _ f
/-- Reading all of the buffer of the own keys' up-projection that is sent from gives its contents. -/
theorem rd_bUk (f : (cc0_scratch4 : Ref sig .tc).ty.Contents (Elt F)) (inb) :
    bUk.view.readAt (Elt F) (Rect.unit (s := S128x2048) ![0, 0] S128x2048.size inb).toLoadRect f = f :=
  Memref.readAt_unit_zero (Elt F) cc0_scratch4 hz2 _ f
/-- Reading all of the buffer of the own values' up-projection that is sent from gives its contents. -/
theorem rd_bUv (f : (cc0_scratch5 : Ref sig .tc).ty.Contents (Elt F)) (inb) :
    bUv.view.readAt (Elt F) (Rect.unit (s := S128x2048) ![0, 0] S128x2048.size inb).toLoadRect f = f :=
  Memref.readAt_unit_zero (Elt F) cc0_scratch5 hz2 _ f
/-- Reading all of the buffer of the transposed queries gives its contents. -/
theorem rd_mQ (f : (cc0_scratch6 : Ref sig .tc).ty.Contents (Elt F)) (inb) :
    mQ.view.readAt (Elt F) (Rect.unit (s := S1024x1024) ![0, 0] S1024x1024.size inb).toLoadRect f = f :=
  Memref.readAt_unit_zero (Elt F) cc0_scratch6 hz2 _ f
/-- Reading all of the buffer of the transposed rotary queries gives its contents. -/
theorem rd_mQr (f : (cc0_scratch7 : Ref sig .tc).ty.Contents (Elt F)) (inb) :
    mQr.view.readAt (Elt F) (Rect.unit (s := S256x1024) ![0, 0] S256x1024.size inb).toLoadRect f = f :=
  Memref.readAt_unit_zero (Elt F) cc0_scratch7 hz2 _ f
/-- Reading all of the buffer of the keys gives its contents. -/
theorem rd_mK (f : (cc0_scratch8 : Ref sig .tc).ty.Contents (Elt F)) (inb) :
    mK.view.readAt (Elt F) (Rect.unit (s := S1024x1024) ![0, 0] S1024x1024.size inb).toLoadRect f = f :=
  Memref.readAt_unit_zero (Elt F) cc0_scratch8 hz2 _ f
/-- Reading all of the buffer of the transposed values gives its contents. -/
theorem rd_mV (f : (cc0_scratch9 : Ref sig .tc).ty.Contents (Elt F)) (inb) :
    mV.view.readAt (Elt F) (Rect.unit (s := S1024x1024) ![0, 0] S1024x1024.size inb).toLoadRect f = f :=
  Memref.readAt_unit_zero (Elt F) cc0_scratch9 hz2 _ f
/-- Storing over all of the buffer of the own down-projection that is sent leaves what is stored. -/
theorem wr_bDkv (f w : (cc0_scratch3 : Ref sig .tc).ty.Contents (Elt F)) (inb) :
    (bDkv.access (Rect.unit (s := S2048x128) ![0, 0] S2048x128.size inb)).write (Elt F) f w Finset.univ = w :=
  Memref.write_access_unit_zero_univ (Elt F) cc0_scratch3 hz2 _ f w
/-- Storing over all of the buffer of the own keys' up-projection that is sent from leaves what is stored. -/
theorem wr_bUk (f w : (cc0_scratch4 : Ref sig .tc).ty.Contents (Elt F)) (inb) :
    (bUk.access (Rect.unit (s := S128x2048) ![0, 0] S128x2048.size inb)).write (Elt F) f w Finset.univ = w :=
  Memref.write_access_unit_zero_univ (Elt F) cc0_scratch4 hz2 _ f w
/-- Storing over all of the buffer of the own values' up-projection that is sent from leaves what is stored. -/
theorem wr_bUv (f w : (cc0_scratch5 : Ref sig .tc).ty.Contents (Elt F)) (inb) :
    (bUv.access (Rect.unit (s := S128x2048) ![0, 0] S128x2048.size inb)).write (Elt F) f w Finset.univ = w :=
  Memref.write_access_unit_zero_univ (Elt F) cc0_scratch5 hz2 _ f w
/-- Storing over all of the buffer of the transposed queries leaves what is stored. -/
theorem wr_mQ (f w : (cc0_scratch6 : Ref sig .tc).ty.Contents (Elt F)) (inb) :
    (mQ.access (Rect.unit (s := S1024x1024) ![0, 0] S1024x1024.size inb)).write (Elt F) f w Finset.univ = w :=
  Memref.write_access_unit_zero_univ (Elt F) cc0_scratch6 hz2 _ f w
/-- Storing over all of the buffer of the transposed rotary queries leaves what is stored. -/
theorem wr_mQr (f w : (cc0_scratch7 : Ref sig .tc).ty.Contents (Elt F)) (inb) :
    (mQr.access (Rect.unit (s := S256x1024) ![0, 0] S256x1024.size inb)).write (Elt F) f w Finset.univ = w :=
  Memref.write_access_unit_zero_univ (Elt F) cc0_scratch7 hz2 _ f w
/-- Storing over all of the buffer of the keys leaves what is stored. -/
theorem wr_mK (f w : (cc0_scratch8 : Ref sig .tc).ty.Contents (Elt F)) (inb) :
    (mK.access (Rect.unit (s := S1024x1024) ![0, 0] S1024x1024.size inb)).write (Elt F) f w Finset.univ = w :=
  Memref.write_access_unit_zero_univ (Elt F) cc0_scratch8 hz2 _ f w
/-- Storing over all of the buffer of the transposed values leaves what is stored. -/
theorem wr_mV (f w : (cc0_scratch9 : Ref sig .tc).ty.Contents (Elt F)) (inb) :
    (mV.access (Rect.unit (s := S1024x1024) ![0, 0] S1024x1024.size inb)).write (Elt F) f w Finset.univ = w :=
  Memref.write_access_unit_zero_univ (Elt F) cc0_scratch9 hz2 _ f w

end Cert.KProof

end
-- ==== Proof.Part1.lean ====
/-
  Part 1 of the body: the three projections copied into the buffers that are sent from.
-/
module

public import proofs.«01_k».proof.Proof.Whole

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

set_option maxHeartbeats 1000000 in
/-- Part 1 leaves copies of the three staged projections. -/
theorem part1 (c : Dev nD) (Kt : _ → sProp 𝕄) :
    iprop((pb cc0_stg1_0 c fullShare (vDkv m c) ∗ pb cc0_stg2_0 c fullShare (vUk m c) ∗ pb cc0_stg3_0 c fullShare (vUv m c)
        ∗ anyb cc0_scratch3 c ∗ anyb cc0_scratch4 c ∗ anyb cc0_scratch5 c)
      ∗ (∀ v5 v8 v9 v10 v11 v30, (pb cc0_stg1_0 c fullShare (vDkv m c) ∗ pb cc0_stg2_0 c fullShare (vUk m c) ∗ pb cc0_stg3_0 c fullShare (vUv m c)
          ∗ pb cc0_scratch3 c fullShare (sDkv m c) ∗ pb cc0_scratch4 c fullShare (sUk m c) ∗ pb cc0_scratch5 c fullShare (sUv m c))
        -∗ Kt ⟨c, v5, v8, v9, v10, v11, SemArray.scalar (sig.barrier 0 rfl), v30⟩))
      ⊢ WP c (prog1 (F := F)) Kt := by
  unfold prog1 WP
  rw [k0_part1_eq_skeleton]; unfold k0_part1_skel
  simp only [Prog.lift, Prog.bind_op, Prog.bind_ret, Prog.pure_eq_ret, wp_deviceId]
  iintro ⟨⟨H1, H2, H3, ⟨%f3, S3⟩, ⟨%f4, S4⟩, ⟨%f5, S5⟩⟩, Hk⟩
  iapply (wp_load 𝒱₀ (c : Thread nD τ) none Set.univ (m := aDkv) (Finset.subset_univ _)) $$ H1; iintro H1
  rw [rd_aDkv]
  iapply (wp_load 𝒱₀ (c : Thread nD τ) none Set.univ (m := bDkv) (Finset.subset_univ _)) $$ S3; iintro S3
  iapply (wp_store 𝒱₀ (c : Thread nD τ) none Set.univ (m := bDkv) (r := Rect.unit (s := S2048x128) ![0, 0] S2048x128.size inb_S2048x128_S2048x128_0_0) (Mk := Finset.univ) (Finset.subset_univ _)) $$ S3; iintro S3
  rw [wr_bDkv]
  iapply (wp_load 𝒱₀ (c : Thread nD τ) none Set.univ (m := aUk) (Finset.subset_univ _)) $$ H2; iintro H2
  rw [rd_aUk]
  iapply (wp_load 𝒱₀ (c : Thread nD τ) none Set.univ (m := bUk) (Finset.subset_univ _)) $$ S4; iintro S4
  iapply (wp_store 𝒱₀ (c : Thread nD τ) none Set.univ (m := bUk) (r := Rect.unit (s := S128x2048) ![0, 0] S128x2048.size inb_S128x2048_S128x2048_0_0) (Mk := Finset.univ) (Finset.subset_univ _)) $$ S4; iintro S4
  rw [wr_bUk]
  iapply (wp_load 𝒱₀ (c : Thread nD τ) none Set.univ (m := aUv) (Finset.subset_univ _)) $$ H3; iintro H3
  rw [rd_aUv]
  iapply (wp_load 𝒱₀ (c : Thread nD τ) none Set.univ (m := bUv) (Finset.subset_univ _)) $$ S5; iintro S5
  iapply (wp_store 𝒱₀ (c : Thread nD τ) none Set.univ (m := bUv) (r := Rect.unit (s := S128x2048) ![0, 0] S128x2048.size inb_S128x2048_S128x2048_0_0) (Mk := Finset.univ) (Finset.subset_univ _)) $$ S5; iintro S5
  rw [wr_bUv]
  rw [wp_ret]; imodintro
  iapply Hk
  isplitl [H1]; · iexact H1
  isplitl [H2]; · iexact H2
  isplitl [H3]; · iexact H3
  isplitl [S3]; · iexact S3
  isplitl [S4]; · iexact S4
  iexact S5

end Cert.KProof

end
-- ==== Proof.Pay.lean ====
/-
  What is handed over with each signal and transfer: the payloads spelled out at the peer.
-/
module

public import proofs.«01_k».proof.Proof.Whole

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- What arrives at the peer is what `c` reads from its own columns. -/
theorem rUk_peer (c : Dev nD) : rUk m (peer c) = (wUk c).view.read (Elt F) (sUk m c) := by
  have h : ∀ d, d = c → (wUk d).view.read (Elt F) (sUk m d) = (wUk c).view.read (Elt F) (sUk m c) := by rintro d rfl; rfl
  exact h _ (peer_peer c)
/-- What arrives at the peer of the values' up-projection is what the device's window holds. -/
theorem rUv_peer (c : Dev nD) : rUv m (peer c) = (wUv c).view.read (Elt F) (sUv m c) := by
  have h : ∀ d, d = c → (wUv d).view.read (Elt F) (sUv m d) = (wUv c).view.read (Elt F) (sUv m c) := by rintro d rfl; rfl
  exact h _ (peer_peer c)

/-- What `c` hands to its peer's barrier: its landing buffers and the windows its peer writes. -/
theorem pay0_peer (c : Dev nD) :
    (iprop(land pDkv c ∗ land pUk c ∗ land pUv c ∗ land (wO0 (peer c)) c ∗ land (wO1 (peer c)) c) : sProp 𝕄) = pay m 0 (peer c) := by
  unfold pay; rw [peer_peer]
/-- What cell 4 of the peer hands over, after the landing of the device's transfer. -/
theorem pay4_peer (c : Dev nD) (fd : Buf (Elt F) (pDkv.view.loc (peer c : Thread nD τ))) :
    pv pDkv (peer c) fullShare (pDkv.view.write (Elt F) fd (bDkv.view.read (Elt F) (sDkv m c)) Finset.univ) ⊢ (pay m 4 (peer c) : sProp 𝕄) := by
  unfold pay; rw [peer_peer]
  refine Entails.of_eq ?_
  exact congrArg (fun X => (pv pDkv (peer c) fullShare X : sProp 𝕄)) (View.write_whole_univ (Val := Elt F) cc0_scratch0 fd (sDkv m c))
/-- What cell 5 of the peer hands over, after the landing of the device's transfer. -/
theorem pay5_peer (c : Dev nD) (fd : Buf (Elt F) (pUk.view.loc (peer c : Thread nD τ))) :
    pv pUk (peer c) fullShare (pUk.view.write (Elt F) fd ((wUk c).view.read (Elt F) (sUk m c)) Finset.univ) ⊢ (pay m 5 (peer c) : sProp 𝕄) := by
  unfold pay; rw [rUk_peer]
  refine Entails.of_eq ?_
  exact congrArg (fun X => (pv pUk (peer c) fullShare X : sProp 𝕄)) (View.write_whole_univ (Val := Elt F) cc0_scratch1 fd _)
/-- What cell 6 of the peer hands over, after the landing of the device's transfer. -/
theorem pay6_peer (c : Dev nD) (fd : Buf (Elt F) (pUv.view.loc (peer c : Thread nD τ))) :
    pv pUv (peer c) fullShare (pUv.view.write (Elt F) fd ((wUv c).view.read (Elt F) (sUv m c)) Finset.univ) ⊢ (pay m 6 (peer c) : sProp 𝕄) := by
  unfold pay; rw [rUv_peer]
  refine Entails.of_eq ?_
  exact congrArg (fun X => (pv pUv (peer c) fullShare X : sProp 𝕄)) (View.write_whole_univ (Val := Elt F) cc0_scratch2 fd _)
/-- What cell 9 of the peer hands over, after the landing of the device's transfer. -/
theorem pay9_peer (c : Dev nD) (fd : Buf (Elt F) ((wO0 c).view.loc (peer c : Thread nD τ))) :
    pv (wO0 c) (peer c) fullShare ((wO0 c).view.write (Elt F) fd ((wO0 c).view.read (Elt F) (oAll m c)) Finset.univ) ⊢ (pay m 9 (peer c) : sProp 𝕄) := by
  unfold pay; rw [oAll_peer, peer_peer]
  exact Entails.of_eq (land_window (c := peer c) (wO0 c) fd (oAll m c))
/-- What cell 10 of the peer hands over, after the landing of the device's transfer. -/
theorem pay10_peer (c : Dev nD) (fd : Buf (Elt F) ((wO1 c).view.loc (peer c : Thread nD τ))) :
    pv (wO1 c) (peer c) fullShare ((wO1 c).view.write (Elt F) fd ((wO1 c).view.read (Elt F) (oAll m c)) Finset.univ) ⊢ (pay m 10 (peer c) : sProp 𝕄) := by
  unfold pay; rw [oAll_peer, peer_peer]
  exact Entails.of_eq (land_window (c := peer c) (wO1 c) fd (oAll m c))

/-- The signal of the peer's barrier at the head of a program. -/
theorem wp_signal_peer (c n : Dev nD) (hn : n = peer c) (l : List (Fin 11))
    {α : Type} {Q : α → sProp 𝕄} {k : PUnit → Prog (TpuEff nD τ sig (Elt F) Λ₀ .tc) α} :
    iprop(records m K ∗ ow c (0 :: l) ∗ dutyTok ER (kcell (peer c, 0)) 0 () ∗ pay m 0 (peer c))
      ⊢ iprop((ow c l -∗ WP c (k ⟨⟩) Q)
          -∗ WP c (.op (.semSignal (Dev.tc n : Thread nD τ) barS (1#32 : BitVec 32).toInt) k) Q) := by
  subst hn
  unfold ow
  iintro ⟨#Hr, ⟨%W, HO⟩, Ht, Hp⟩
  iintro Hk
  iapply (Rounds.wp_signal 𝒱₀ ER (rd m) (c : Thread nD τ) none (dst := (peer c : Thread nD τ)) (κ := K (peer c, 0))
      (d := ()) (duties_mem m (peer c) 0) ((amount_at m (peer c) 0).trans (by decide)) () (due (peer c) l) rfl)
    $$ [HO Ht Hp]
  · isplitr; · iapply (inv_at m K (peer c, 0)); iexact Hr
    isplitl [HO]; · iexact HO
    isplitl [Ht]; · iexact Ht
    isplitl [Hp]; · iapply (Entails.of_eq (payload_at m (peer c) 0 ()).symm); iexact Hp
    iapply (reached_at m K (peer c, 0)); iexact Hr
  iintro HO
  iapply Hk
  iexists W; iexact HO

/-- The credit and the position of one own cell, as they are before its wait. -/
abbrev cell (c : Dev nD) (k : Fin 11) : sProp 𝕄 := iprop(cred (tallyAt (kcell (c, k)) () (amt k)) ∗ atPos ER (kcell (c, k)) 0 ∅ 0)

/-- The wait for a transfer on an own cell at the head of a program. -/
theorem wp_wait_dma (c : Dev nD) (k0 : Fin 11) (l : List (Fin 11)) (hl : ∀ k ∈ l, lvk k0 < lvk k)
    {s s' : Shape} {e e' : EltTy} (src : Memref sig .tc .vmem s' e') (dst : Memref sig .tc .vmem s e) {sem : DmaSem sig}
    (hS : (SemLoc.dma sem : SemLoc sig) = csem k0) (hn : dst.view.dmaCredit = amt k0)
    {hsrc : src.view.WordExact} {hdst : dst.view.WordExact}
    {α : Type} {Q : α → sProp 𝕄} {k : PUnit → Prog (TpuEff nD τ sig (Elt F) Λ₀ .tc) α} :
    iprop(records m K ∗ levAts L lv ∗ cell c k0 ∗ ow c l)
      ⊢ iprop(((ow c l ∗ semVal (kcell (c, k0)) 0 ∗ pay m k0 c) -∗ WP c (k ⟨⟩) Q)
          -∗ WP c (.op (.waitDma2 sem src dst hsrc hdst) k) Q) := by
  iintro ⟨Hr, Hlev, ⟨HC, HA⟩, HO⟩
  iapply (wp_wait_own m K c k0 l hl hS hn (wpE_waitDma2_eq 𝒱₀ (c : Thread nD τ) none Set.univ))
  isplitl [Hr]; · iexact Hr
  isplitl [Hlev]; · iexact Hlev
  isplitl [HC]; · iexact HC
  isplitl [HO] <;> iassumption

end Cert.KProof

end
-- ==== Proof.Part2.lean ====
/-
  Part 2 of the body: the handshake with the peer and the first two transfers.
-/
module

public import proofs.«01_k».proof.Proof.Pay

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

set_option maxHeartbeats 2000000 in
/-- Part 2: `c` tells its peer that its buffers are ready, waits for the same from the peer, and starts the transfers of the
    down-projection and of the first up-projection's columns. -/
theorem part2 (c : Dev nD) (v5 v8 v9 v30 : BitVec 32) (Kt : PUnit → sProp 𝕄) :
    iprop((records m K ∗ levAts L lv ∗ ow c dues ∗ cred (tallyAt (kcell (c, 0)) () (amt 0)) ∗ atPos ER (kcell (c, 0)) 0 ∅ 0
        ∗ (dutyTok ER (kcell (peer c, 0)) 0 () ∗ dutyTok ER (kcell (c, 1)) 0 () ∗ dutyTok ER (kcell (c, 2)) 0 ()
            ∗ dutyTok ER (kcell (peer c, 4)) 0 () ∗ dutyTok ER (kcell (peer c, 5)) 0 ())
        ∗ (land pDkv c ∗ land pUk c ∗ land pUv c ∗ land (wO0 (peer c)) c ∗ land (wO1 (peer c)) c)
        ∗ pb cc0_scratch3 c fullShare (sDkv m c) ∗ pb cc0_scratch4 c fullShare (sUk m c))
      ∗ ((ow c [6, 9, 10] ∗ semVal (kcell (c, 0)) 0 ∗ cred (tallyAt (kcell (c, 1)) () (amt 1)) ∗ cred (tallyAt (kcell (c, 2)) () (amt 2))
          ∗ land pUv (peer c) ∗ land (wO0 c) (peer c) ∗ land (wO1 c) (peer c)
          ∗ pb cc0_scratch3 c fullShare.left (sDkv m c)
          ∗ ((lUk c) ↦[Finset.univ \ (wUk c).view.set]{fullShare} (sUk m c)))
        -∗ Kt ⟨⟩))
      ⊢ WP c (prog2 (F := F) c v5 v8 v9 (SemArray.scalar (sig.barrier 0 rfl)) v30) Kt := by
  unfold prog2 WP
  rw [k0_part2_eq_skeleton]; unfold k0_part2_skel
  simp only [semSignalWord, semWaitWord, Prog.lift, Prog.bind_op, Prog.bind_ret, Prog.pure_eq_ret]
  iintro ⟨⟨#Hr, #Hlev, HO, HcB, HaB, ⟨T0, T1, T2, T4, T5⟩, Hland, S3, S4⟩, Hk⟩
  unfold dues
  ihave Hp0 := (Entails.of_eq (pay0_peer m c)) $$ Hland
  iapply (wp_signal_peer m K c _ (dev1_eq c) [4, 5, 6, 9, 10]) $$ [HO T0 Hp0]
  · isplitr; · iexact Hr
    isplitl [HO]; · iexact HO
    isplitl [T0] <;> iassumption
  iintro HO
  iapply (wp_wait_own m K c 0 [4, 5, 6, 9, 10] (by decide) (sm := SemLoc.reg barS) rfl rfl
    (wpE_semWait_eq 𝒱₀ (c : Thread nD τ) none Set.univ)) $$ [HcB HO HaB]
  · isplitr; · iexact Hr
    isplitr; · iexact Hlev
    isplitl [HcB]; · iexact HcB
    isplitl [HO] <;> iassumption
  iintro ⟨HO, Z0, Hpay⟩
  ihave Hpay := (show pay m 0 c ⊢ (iprop(land pDkv (peer c) ∗ land pUk (peer c) ∗ land pUv (peer c) ∗ land (wO0 c) (peer c) ∗ land (wO1 c) (peer c)) : sProp 𝕄) from Entails.refl _) $$ Hpay
  unfold land
  icases Hpay with ⟨⟨%g0, G0⟩, ⟨%g1, G1⟩, G2, G3, G4⟩
  ihave S3 := (halves (F := F) ((c : Thread nD τ).loc cc0_scratch3) Finset.univ (sDkv m c)).1 $$ S3
  icases S3 with ⟨S3l, S3r⟩
  ihave S3r := (Entails.of_eq (pv_whole (F := F) cc0_scratch3 c fullShare.right (sDkv m c)).symm) $$ S3r
  iapply (wp_send_peer m K c _ (dev2_eq c) 1 4 [5, 6, 9, 10] (src := bDkv) (dst := pDkv) (sS := .dma sWs0.sem) (sR := .dma sWr0.sem) (by decide) (by decide)
    fullShare.right (sDkv m c) g0 rfl rfl (Entails.refl _) (pay4_peer m c g0)) $$ [S3r G0 HO T1 T4]
  · isplitr; · iexact Hr
    isplitl [S3r]; · iexact S3r
    isplitl [G0]; · iexact G0
    isplitl [HO]; · iexact HO
    isplitl [T1] <;> iassumption
  iintro ⟨C1, HO⟩
  ihave S4 := (split_uk (F := F) c fullShare (sUk m c)).1 $$ S4
  icases S4 with ⟨S4w, S4r⟩
  iapply (wp_send_peer m K c _ (dev3_eq c) 2 5 [6, 9, 10] (src := wUk c) (dst := pUk) (sS := .dma sWs1.sem) (sR := .dma sWr1.sem) (by decide) (by decide)
    fullShare (sUk m c) g1 rfl rfl (Entails.refl _) (pay5_peer m c g1)) $$ [S4w G1 HO T2 T5]
  · isplitr; · iexact Hr
    isplitl [S4w]; · iexact S4w
    isplitl [G1]; · iexact G1
    isplitl [HO]; · iexact HO
    isplitl [T2] <;> iassumption
  iintro ⟨C2, HO⟩
  rw [wp_ret]; imodintro
  iapply Hk
  isplitl [HO]; · iexact HO
  isplitl [Z0]; · iexact Z0
  isplitl [C1]; · iexact C1
  isplitl [C2]; · iexact C2
  isplitl [G2]; · iexact G2
  isplitl [G3]; · iexact G3
  isplitl [G4]; · iexact G4
  isplitl [S3l]; · iexact S3l
  iexact S4r

end Cert.KProof

end
-- ==== Proof.Part3.lean ====
/-
  Part 3 of the body: the third transfer, and the products that need nothing of the peer.
-/
module

public import proofs.«01_k».proof.Proof.Pay

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- The staged inputs that part 3 reads. -/
abbrev ins3 (c : Dev nD) : sProp 𝕄 :=
  iprop(pb cc0_stg0_0 c fullShare (vX m c) ∗ pb cc0_stg4_0 c fullShare (vQ m c) ∗ pb cc0_stg5_0 c fullShare (vQr m c) ∗ pb cc0_stg6_0 c fullShare (vKr m c))

set_option maxHeartbeats 2000000 in
/-- Part 3: the transfer of the second up-projection's columns starts; the queries and their rotary parts are stored. -/
theorem part3 (c : Dev nD) (v10 v11 : BitVec 32) (Kt : _ → sProp 𝕄) :
    iprop((records m K ∗ ow c [6, 9, 10] ∗ dutyTok ER (kcell (c, 3)) 0 () ∗ dutyTok ER (kcell (peer c, 6)) 0 () ∗ land pUv (peer c)
        ∗ pb cc0_scratch5 c fullShare (sUv m c) ∗ ins3 m c ∗ pb cc0_scratch3 c fullShare.left (sDkv m c)
        ∗ anyb cc0_scratch6 c ∗ anyb cc0_scratch7 c)
      ∗ ((ow c [9, 10] ∗ cred (tallyAt (kcell (c, 3)) () (amt 3))
          ∗ ((lUv c) ↦[Finset.univ \ (wUv c).view.set]{fullShare} (sUv m c))
          ∗ ins3 m c ∗ pb cc0_scratch3 c fullShare.left (sDkv m c)
          ∗ pb cc0_scratch6 c fullShare (qT m c) ∗ pb cc0_scratch7 c fullShare (qrT m c))
        -∗ Kt ⟨k0_pay5 (vX m c), kr m c, c0T m c, c0 m c⟩))
      ⊢ WP c (prog3 (F := F) c v10 v11) Kt := by
  unfold prog3 WP ins3 kr c0T c0
  rw [k0_part3_eq_skeleton]; unfold k0_part3_skel
  simp only [Prog.lift, Prog.bind_op, Prog.bind_ret, Prog.pure_eq_ret]
  unfold land
  iintro ⟨⟨#Hr, HO, T3, T6, ⟨%g, G⟩, S5, ⟨HX, HQ, HQr, HKr⟩, S3, ⟨%f6, S6⟩, ⟨%f7, S7⟩⟩, Hk⟩
  ihave S5 := (split_uv (F := F) c fullShare (sUv m c)).1 $$ S5
  icases S5 with ⟨S5w, S5r⟩
  iapply (wp_send_peer m K c _ (dev4_eq c) 3 6 [9, 10] (src := wUv c) (dst := pUv) (sS := .dma sWs2.sem) (sR := .dma sWr2.sem) (by decide) (by decide)
    fullShare (sUv m c) g rfl rfl (Entails.refl _) (pay6_peer m c g)) $$ [S5w G HO T3 T6]
  · isplitr; · iexact Hr
    isplitl [S5w]; · iexact S5w
    isplitl [G]; · iexact G
    isplitl [HO]; · iexact HO
    isplitl [T3] <;> iassumption
  iintro ⟨C3, HO⟩
  iapply (wp_load 𝒱₀ (c : Thread nD τ) none Set.univ (m := aX) (Finset.subset_univ _)) $$ HX; iintro HX
  rw [rd_aX]
  iapply (wp_load 𝒱₀ (c : Thread nD τ) none Set.univ (m := aQ) (Finset.subset_univ _)) $$ HQ; iintro HQ
  iapply (wp_load 𝒱₀ (c : Thread nD τ) none Set.univ (m := mQ) (Finset.subset_univ _)) $$ S6; iintro S6
  iapply (wp_store 𝒱₀ (c : Thread nD τ) none Set.univ (m := mQ) (r := Rect.unit (s := S1024x1024) ![0, 0] S1024x1024.size inb_S1024x1024_S1024x1024_0_0) (Mk := Finset.univ) (Finset.subset_univ _)) $$ S6; iintro S6
  rw [wr_mQ]
  iapply (wp_load 𝒱₀ (c : Thread nD τ) none Set.univ (m := aQr) (Finset.subset_univ _)) $$ HQr; iintro HQr
  iapply (wp_load 𝒱₀ (c : Thread nD τ) none Set.univ (m := mQr) (Finset.subset_univ _)) $$ S7; iintro S7
  iapply (wp_store 𝒱₀ (c : Thread nD τ) none Set.univ (m := mQr) (r := Rect.unit (s := S256x1024) ![0, 0] S256x1024.size inb_S256x1024_S256x1024_0_0) (Mk := Finset.univ) (Finset.subset_univ _)) $$ S7; iintro S7
  rw [wr_mQr]
  iapply (wp_load 𝒱₀ (c : Thread nD τ) none Set.univ (m := aKr) (Finset.subset_univ _)) $$ HKr; iintro HKr
  rw [rd_aKr]
  iapply (wp_load 𝒱₀ (c : Thread nD τ) none Set.univ (m := bDkv) (Finset.subset_univ _)) $$ S3; iintro S3
  rw [rd_bDkv]
  rw [wp_ret]; imodintro
  iapply Hk
  isplitl [HO]; · iexact HO
  isplitl [C3]; · iexact C3
  isplitl [S5r]; · iexact S5r
  isplitl [HX HQ HQr HKr]
  · isplitl [HX]; · iexact HX
    isplitl [HQ]; · iexact HQ
    isplitl [HQr] <;> iassumption
  isplitl [S3]; · iexact S3
  isplitl [S6]; · iexact S6
  iexact S7

end Cert.KProof

end
-- ==== Proof.Part4.lean ====
/-
  Part 4 of the body: the down-projection and the first up-projection's columns arrive.
-/
module

public import proofs.«01_k».proof.Proof.Pay

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

set_option maxHeartbeats 2000000 in
/-- Part 4: the transfers of the down-projection and of the first up-projection's columns are complete, both ways. -/
theorem part4 (c : Dev nD) (v5 v8 v9 : BitVec 32) (Kt : _ → sProp 𝕄) :
    iprop((records m K ∗ levAts L lv ∗ ow c [9, 10] ∗ (cell c 1 ∗ cell c 4 ∗ cell c 2 ∗ cell c 5)
        ∗ pb cc0_scratch3 c fullShare.left (sDkv m c)
        ∗ ((lUk c) ↦[Finset.univ \ (wUk c).view.set]{fullShare} (sUk m c)))
      ∗ ((ow c [9, 10] ∗ (semVal (kcell (c, 1)) 0 ∗ semVal (kcell (c, 4)) 0 ∗ semVal (kcell (c, 2)) 0 ∗ semVal (kcell (c, 5)) 0)
          ∗ pb cc0_scratch3 c fullShare (sDkv m c) ∗ pb cc0_scratch0 c fullShare (sDkv m (peer c))
          ∗ pb cc0_scratch4 c fullShare (sUk m c) ∗ pb cc0_scratch1 c fullShare (rUk m c))
        -∗ Kt ⟨c1T m c, c1 m c⟩))
      ⊢ WP c (prog4 (F := F) c v5 v8 v9 (k0_pay5 (vX m c))) Kt := by
  unfold prog4 WP c1T c1
  rw [k0_part4_eq_skeleton]; unfold k0_part4_skel
  simp only [Prog.lift, Prog.bind_op, Prog.bind_ret, Prog.pure_eq_ret]
  iintro ⟨⟨#Hr, #Hlev, HO, ⟨C1, C4, C2, C5⟩, S3, S4r⟩, Hk⟩
  iapply (wp_wait_dma m K c 1 [9, 10] (by decide) pDkv bDkv (sem := sWs0.sem) (by decide) rfl) $$ [C1 HO]
  · isplitr; · iexact Hr
    isplitr; · iexact Hlev
    isplitl [C1] <;> iassumption
  iintro ⟨HO, Z1, P1⟩
  ihave P1 := (show pay m 1 c ⊢ (pb cc0_scratch3 c fullShare.right (sDkv m c) : sProp 𝕄) from Entails.of_eq (pv_whole (F := F) cc0_scratch3 c fullShare.right (sDkv m c))) $$ P1
  ihave S3 := (halves (F := F) ((c : Thread nD τ).loc cc0_scratch3) Finset.univ (sDkv m c)).2 $$ [S3 P1]
  · isplitl [S3] <;> iassumption
  iapply (wp_wait_dma m K c 4 [9, 10] (by decide) bDkv pDkv (sem := sWr0.sem) (by decide) rfl) $$ [C4 HO]
  · isplitr; · iexact Hr
    isplitr; · iexact Hlev
    isplitl [C4] <;> iassumption
  iintro ⟨HO, Z4, P4⟩
  ihave P4 := (show pay m 4 c ⊢ (pb cc0_scratch0 c fullShare (sDkv m (peer c)) : sProp 𝕄) from Entails.of_eq (pv_whole (F := F) cc0_scratch0 c fullShare (sDkv m (peer c)))) $$ P4
  iapply (wp_load 𝒱₀ (c : Thread nD τ) none Set.univ (m := pDkv) (Finset.subset_univ _)) $$ P4; iintro P4
  rw [rd_pDkv]
  iapply (wp_wait_dma m K c 2 [9, 10] (by decide) pUk (wUk c) (sem := sWs1.sem) (by decide) rfl) $$ [C2 HO]
  · isplitr; · iexact Hr
    isplitr; · iexact Hlev
    isplitl [C2] <;> iassumption
  iintro ⟨HO, Z2, P2⟩
  ihave P2 := (show pay m 2 c ⊢ (pv (wUk c) c fullShare (sUk m c) : sProp 𝕄) from Entails.refl _) $$ P2
  ihave S4 := (split_uk (F := F) c fullShare (sUk m c)).2 $$ [P2 S4r]
  · isplitl [P2] <;> iassumption
  iapply (wp_wait_dma m K c 5 [9, 10] (by decide) (wUk c) pUk (sem := sWr1.sem) (by decide) rfl) $$ [C5 HO]
  · isplitr; · iexact Hr
    isplitr; · iexact Hlev
    isplitl [C5] <;> iassumption
  iintro ⟨HO, Z5, P5⟩
  ihave P5 := (show pay m 5 c ⊢ (pb cc0_scratch1 c fullShare (rUk m c) : sProp 𝕄) from Entails.of_eq (pv_whole (F := F) cc0_scratch1 c fullShare (rUk m c))) $$ P5
  unfold WP
  rw [wp_ret]; imodintro
  iapply Hk
  isplitl [HO]; · iexact HO
  isplitl [Z1 Z4 Z2 Z5]
  · isplitl [Z1]; · iexact Z1
    isplitl [Z4]; · iexact Z4
    isplitl [Z2] <;> iassumption
  isplitl [S3]; · iexact S3
  isplitl [P4]; · iexact P4
  isplitl [S4]; · iexact S4
  iexact P5

end Cert.KProof

end
-- ==== Proof.HeadLoops.lean ====
/-
  The two loops over the heads: each trip stores one head's output, and after the trips the own window holds all of them.
-/
module

public import proofs.«01_k».proof.Proof.Pay

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- What a store into a rectangle of a whole buffer leaves under the rectangle. -/
theorem write_whole_emb (b : Ref sig .tc) (r : Rect b.ty.shape) (f : b.ty.Contents (Elt F)) (w : r.shape.Idx → Elt F b.ty.elt) (x : r.shape.Idx) :
    ((View.whole b).slice r).write (Elt F) f w Finset.univ (r.emb x) = w x :=
  (View.write_emb_of_mem (v := (View.whole b).slice r) f w (Finset.mem_univ x)).trans (cast_eq _ _)

/-! ## The loop over the heads at half 0 of the positions -/

/-- The rows that trip `t` stores. -/
abbrev rh0 (c : Dev nD) (t : Fin k0_t1_loop.trips) : Rect S2x2048x512 :=
  Rect.unit (s := S2x2048x512) (k0_off9 c t) S1x128x512.size (k0_off9_inb c t)

/-- Which elements a trip of the first loop stores. -/
theorem mem_rh0 (c : Dev nD) (t : Fin k0_t1_loop.trips) (i : S2x2048x512.Idx) :
    Iff (i ∈ (mOut.access (rh0 c t)).set) ((i 0).val = 0 ∧ (i 1).val / 1024 = c.val / 16 ∧ (i 1).val % 1024 / 128 = t.val) := by
  have hd := dev_div c
  have ht : t.val < 8 := lt_of_lt_of_eq t.isLt trips1
  have h0 : (i 0).val < 2 := (i 0).isLt
  have h1 : (i 1).val < 2048 := (i 1).isLt
  have h2 : (i 2).val < 512 := (i 2).isLt
  have hs : (mOut.access (rh0 c t)).set = (rh0 c t).set := View.set_slice_whole cc0_scratch10 _
  rw [hs, Rect.mem_set_unit, ValueKit.forall_fin_iff_conj]
  simp only [ValueKit.finConj, k0_off9_eq]
  simp [S1x128x512]
  omega

/-- A trip of the first loop stores inside the device's window. -/
theorem rh0_sub (c : Dev nD) (t : Fin k0_t1_loop.trips) : (mOut.access (rh0 c t)).set ⊆ (wO0 c).view.set := by
  intro i hi
  have h := (mem_rh0 c t i).1 hi
  exact (mem_wO0 c i).2 ⟨h.1, h.2.1⟩

/-- What a trip's store leaves at a position of the own window. -/
theorem write0_at (c : Dev nD) (t : Fin k0_t1_loop.trips) (f : Vec F S2x2048x512 .bf16) (w : FVec F S1x128x512 .bf16) (i : S2x2048x512.Idx)
    (hi : i ∈ (wO0 c).view.set) :
    (mOut.access (rh0 c t)).write (Elt F) f w Finset.univ i
      = if (i 1).val % 1024 / 128 = t.val then w (ixH (i 1).val (i 2).val) else f i := by
  have hi := (mem_wO0 c i).1 hi
  split
  next h =>
    have hd := dev_div c
    have h1 : (i 1).val < 2048 := (i 1).isLt
    have h2 : (i 2).val < 512 := (i 2).isLt
    have hx : (rh0 c t).emb (ixH (i 1).val (i 2).val) = i := by
      funext a
      refine Fin.ext ((ValueKit.rect_emb_unit_val _ _ (k0_off9_inb c t) (ixH (i 1).val (i 2).val) a).trans ?_)
      have ho := congrFun (k0_off9_eq c t) a
      match a, ho with
      | ⟨0, _⟩, ho => rw [ho]; show 0 + 0 = (i 0).val; omega
      | ⟨1, _⟩, ho => rw [ho]; show 1024 * (c.val / 16) + 128 * t.val + (i 1).val % 128 = (i 1).val; omega
      | ⟨2, _⟩, ho => rw [ho]; show 0 + (i 2).val % 512 = (i 2).val; omega
    have hr := write_whole_emb (F := F) cc0_scratch10 (rh0 c t) f w (ixH (i 1).val (i 2).val)
    rw [hx] at hr
    exact hr
  next h =>
    refine View.write_of_not_mem (v := mOut.access (rh0 c t)) f w Finset.univ fun hm => h ?_
    exact ((mem_rh0 c t i).1 hm).2.2

/-- The head output at a position of the own window, as the trip that stores it has it. -/
theorem oAll_own0 (c : Dev nD) (i : S2x2048x512.Idx) (hi : i ∈ (wO0 c).view.set) (t : Fin k0_t1_loop.trips)
    (ht : (i 1).val % 1024 / 128 = t.val) : oAll m c i = oh0 m c t (ixH (i 1).val (i 2).val) := by
  have hi := (mem_wO0 c i).1 hi
  unfold oAll half
  simp only
  rw [if_pos hi.2]
  rw [if_pos hi.1]
  congr 2

/-- The buffers that the loop reads. -/
abbrev rds0 (c : Dev nD) : sProp 𝕄 :=
  iprop(pb cc0_scratch6 c fullShare (qT m c) ∗ pb cc0_scratch7 c fullShare (qrT m c) ∗ pb cc0_scratch8 c fullShare (kk m c) ∗ pb cc0_scratch9 c fullShare (vv m c))

/-- Before trip `t`: the own window holds the outputs of the heads before `t`. -/
def linv0 (c : Dev nD) (t : ℕ) (_ : Unit) : sProp 𝕄 :=
  iprop(rds0 m c ∗ ∃ f, ⌜∀ i ∈ (wO0 c).view.set, (i 1).val % 1024 / 128 < t → f i = oAll m c i⌝ ∗ pv (wO0 c) c fullShare f)

/-- The body of the loop on the launch's buffers. -/
abbrev lbody0 (c : Dev nD) (v5 v8 v9 v10 : BitVec 32) (v98 : FVec F S128x1024 .bf16) (v99 : FVec F S1024x128 .bf16) (v112 : FVec F S128x1024 .bf16) (v113 : FVec F S1024x128 .bf16) :=
  k0_t1_body (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14 c v5 v8 v9 v10 (kr m c) v98 v99 v112 v113

set_option maxHeartbeats 2000000 in
/-- One trip. -/
theorem trip0 (c : Dev nD) (v5 v8 v9 v10 : BitVec 32) (v98 : FVec F S128x1024 .bf16) (v99 : FVec F S1024x128 .bf16) (v112 : FVec F S128x1024 .bf16) (v113 : FVec F S1024x128 .bf16) (t : Fin k0_t1_loop.trips) (acc : Unit) :
    linv0 m c t.val acc ⊢ WP c (lbody0 m c v5 v8 v9 v10 v98 v99 v112 v113 t acc) (linv0 m c (t.val + 1)) := by
  unfold lbody0 WP k0_t1_body linv0
  simp only [Prog.lift, Prog.bind_op, Prog.bind_ret, Prog.pure_eq_ret]
  iintro ⟨⟨H6, H7, H8, H9⟩, ⟨%f, %hf, HW⟩⟩
  iapply (wp_load 𝒱₀ (c : Thread nD τ) none Set.univ (m := mK) (Finset.subset_univ _)) $$ H8; iintro H8
  iapply (wp_load 𝒱₀ (c : Thread nD τ) none Set.univ (m := mQ) (Finset.subset_univ _)) $$ H6; iintro H6
  iapply (wp_load 𝒱₀ (c : Thread nD τ) none Set.univ (m := mQr) (Finset.subset_univ _)) $$ H7; iintro H7
  iapply (wp_load 𝒱₀ (c : Thread nD τ) none Set.univ (m := mV) (Finset.subset_univ _)) $$ H9; iintro H9
  iapply (wp_load_rect 𝒱₀ (c : Thread nD τ) none Set.univ (m := mOut) (r := rh0 c t) (rh0_sub c t)) $$ HW; iintro HW
  iapply (wp_store 𝒱₀ (c : Thread nD τ) none Set.univ (m := mOut) (r := rh0 c t) (Mk := Finset.univ) (rh0_sub c t)) $$ HW; iintro HW
  rw [wp_ret]; imodintro
  isplitl [H6 H7 H8 H9]
  · isplitl [H6]; · iexact H6
    isplitl [H7]; · iexact H7
    isplitl [H8] <;> iassumption
  iexists _
  isplitr; rotate_left
  · iexact HW
  ipureintro
  intro i hi hlt
  rw [show k0_pay15 (kr m c) _ _ _ _ = oh0 m c t from rfl]
  refine (write0_at c t f (oh0 m c t) i hi).trans ?_
  split
  next h => exact (oAll_own0 m c i hi t h).symm
  next h => exact hf i hi (by omega)

set_option maxHeartbeats 1000000 in
/-- The loop: from any contents of the own window to the head outputs there. -/
theorem loop0 (c : Dev nD) (v5 v8 v9 v10 : BitVec 32) (v98 : FVec F S128x1024 .bf16) (v99 : FVec F S1024x128 .bf16) (v112 : FVec F S128x1024 .bf16) (v113 : FVec F S1024x128 .bf16) {β : Type} {kk' : Unit → Prog (TpuEff nD τ sig (Elt F) Λ₀ .tc) β} {Q : β → sProp 𝕄} :
    iprop(rds0 m c ∗ land (wO0 c) c)
      ⊢ iprop(((rds0 m c ∗ pv (wO0 c) c fullShare (oAll m c)) -∗ WP c (kk' ⟨⟩) Q)
          -∗ WP c (Scf.Loop.for k0_t1_loop k0_t1_ok ⟨⟩ (lbody0 m c v5 v8 v9 v10 v98 v99 v112 v113) >>= kk') Q) := by
  unfold land
  iintro ⟨Hr, ⟨%f, HW⟩⟩
  iintro Hk
  iapply (Scf.wp_for_bind frame (wpE (defs₀ (F := F)) 𝒱₀ (c : Thread nD τ) none) Set.univ _ _ _ k0_t1_ok ⟨⟩ (lbody0 m c v5 v8 v9 v10 v98 v99 v112 v113) (linv0 m c)
    (fun t acc => trip0 m c v5 v8 v9 v10 v98 v99 v112 v113 t acc)) $$ [Hr HW]
  · unfold linv0
    isplitl [Hr]; · iexact Hr
    iexists f
    isplitr; · ipureintro; intro i hi h; exact absurd h (Nat.not_lt_zero _)
    iexact HW
  unfold linv0
  iintro %acc ⟨Hr, ⟨%g, %hg, HW⟩⟩
  iapply Hk
  isplitl [Hr]; · iexact Hr
  iapply (Entails.of_eq (pointsTo_congr (ℓ := lOut c) (q := fullShare) (I := (wO0 c).view.set) (f := g) (g := oAll m c) (fun i hi => hg i hi (by
    refine lt_of_lt_of_eq ?_ (show 8 = Scf.trips k0_t1_loop.lb k0_t1_loop.ub k0_t1_loop.st from trips1.symm)
    have h1 : (i 1).val < 2048 := (i 1).isLt
    omega))))
  iexact HW

/-! ## The loop over the heads at half 1 of the positions -/

/-- The rows that trip `t` stores. -/
abbrev rh1 (c : Dev nD) (t : Fin k0_t2_loop.trips) : Rect S2x2048x512 :=
  Rect.unit (s := S2x2048x512) (k0_off15 c t) S1x128x512.size (k0_off15_inb c t)

/-- Which elements a trip of the second loop stores. -/
theorem mem_rh1 (c : Dev nD) (t : Fin k0_t2_loop.trips) (i : S2x2048x512.Idx) :
    Iff (i ∈ (mOut.access (rh1 c t)).set) ((i 0).val = 1 ∧ (i 1).val / 1024 = c.val / 16 ∧ (i 1).val % 1024 / 128 = t.val) := by
  have hd := dev_div c
  have ht : t.val < 8 := lt_of_lt_of_eq t.isLt trips2
  have h0 : (i 0).val < 2 := (i 0).isLt
  have h1 : (i 1).val < 2048 := (i 1).isLt
  have h2 : (i 2).val < 512 := (i 2).isLt
  have hs : (mOut.access (rh1 c t)).set = (rh1 c t).set := View.set_slice_whole cc0_scratch10 _
  rw [hs, Rect.mem_set_unit, ValueKit.forall_fin_iff_conj]
  simp only [ValueKit.finConj, k0_off15_eq]
  simp [S1x128x512]
  omega

/-- A trip of the second loop stores inside the device's window. -/
theorem rh1_sub (c : Dev nD) (t : Fin k0_t2_loop.trips) : (mOut.access (rh1 c t)).set ⊆ (wO1 c).view.set := by
  intro i hi
  have h := (mem_rh1 c t i).1 hi
  exact (mem_wO1 c i).2 ⟨h.1, h.2.1⟩

/-- What a trip's store leaves at a position of the own window. -/
theorem write1_at (c : Dev nD) (t : Fin k0_t2_loop.trips) (f : Vec F S2x2048x512 .bf16) (w : FVec F S1x128x512 .bf16) (i : S2x2048x512.Idx)
    (hi : i ∈ (wO1 c).view.set) :
    (mOut.access (rh1 c t)).write (Elt F) f w Finset.univ i
      = if (i 1).val % 1024 / 128 = t.val then w (ixH (i 1).val (i 2).val) else f i := by
  have hi := (mem_wO1 c i).1 hi
  split
  next h =>
    have hd := dev_div c
    have h1 : (i 1).val < 2048 := (i 1).isLt
    have h2 : (i 2).val < 512 := (i 2).isLt
    have hx : (rh1 c t).emb (ixH (i 1).val (i 2).val) = i := by
      funext a
      refine Fin.ext ((ValueKit.rect_emb_unit_val _ _ (k0_off15_inb c t) (ixH (i 1).val (i 2).val) a).trans ?_)
      have ho := congrFun (k0_off15_eq c t) a
      match a, ho with
      | ⟨0, _⟩, ho => rw [ho]; show 1 + 0 = (i 0).val; omega
      | ⟨1, _⟩, ho => rw [ho]; show 1024 * (c.val / 16) + 128 * t.val + (i 1).val % 128 = (i 1).val; omega
      | ⟨2, _⟩, ho => rw [ho]; show 0 + (i 2).val % 512 = (i 2).val; omega
    have hr := write_whole_emb (F := F) cc0_scratch10 (rh1 c t) f w (ixH (i 1).val (i 2).val)
    rw [hx] at hr
    exact hr
  next h =>
    refine View.write_of_not_mem (v := mOut.access (rh1 c t)) f w Finset.univ fun hm => h ?_
    exact ((mem_rh1 c t i).1 hm).2.2

/-- The head output at a position of the own window, as the trip that stores it has it. -/
theorem oAll_own1 (c : Dev nD) (i : S2x2048x512.Idx) (hi : i ∈ (wO1 c).view.set) (t : Fin k0_t2_loop.trips)
    (ht : (i 1).val % 1024 / 128 = t.val) : oAll m c i = oh1 m c t (ixH (i 1).val (i 2).val) := by
  have hi := (mem_wO1 c i).1 hi
  unfold oAll half
  simp only
  rw [if_pos hi.2]
  rw [if_neg (by omega)]
  congr 2

/-- The buffers that the loop reads. -/
abbrev rds1 (c : Dev nD) : sProp 𝕄 :=
  iprop(pb cc0_scratch6 c fullShare (qT m c) ∗ pb cc0_scratch7 c fullShare (qrT m c) ∗ pb cc0_scratch8 c fullShare (kk m c) ∗ pb cc0_scratch9 c fullShare (vv m c))

/-- Before trip `t`: the own window holds the outputs of the heads before `t`. -/
def linv1 (c : Dev nD) (t : ℕ) (_ : Unit) : sProp 𝕄 :=
  iprop(rds1 m c ∗ ∃ f, ⌜∀ i ∈ (wO1 c).view.set, (i 1).val % 1024 / 128 < t → f i = oAll m c i⌝ ∗ pv (wO1 c) c fullShare f)

/-- The body of the loop on the launch's buffers. -/
abbrev lbody1 (c : Dev nD) (v5 v8 v9 v10 : BitVec 32)  :=
  k0_t2_body (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14 c v5 v8 v9 v10 (kr m c)

set_option maxHeartbeats 2000000 in
/-- One trip. -/
theorem trip1 (c : Dev nD) (v5 v8 v9 v10 : BitVec 32)  (t : Fin k0_t2_loop.trips) (acc : Unit) :
    linv1 m c t.val acc ⊢ WP c (lbody1 m c v5 v8 v9 v10  t acc) (linv1 m c (t.val + 1)) := by
  unfold lbody1 WP k0_t2_body linv1
  simp only [Prog.lift, Prog.bind_op, Prog.bind_ret, Prog.pure_eq_ret]
  iintro ⟨⟨H6, H7, H8, H9⟩, ⟨%f, %hf, HW⟩⟩
  iapply (wp_load 𝒱₀ (c : Thread nD τ) none Set.univ (m := mK) (Finset.subset_univ _)) $$ H8; iintro H8
  iapply (wp_load 𝒱₀ (c : Thread nD τ) none Set.univ (m := mQ) (Finset.subset_univ _)) $$ H6; iintro H6
  iapply (wp_load 𝒱₀ (c : Thread nD τ) none Set.univ (m := mQr) (Finset.subset_univ _)) $$ H7; iintro H7
  iapply (wp_load 𝒱₀ (c : Thread nD τ) none Set.univ (m := mV) (Finset.subset_univ _)) $$ H9; iintro H9
  iapply (wp_load_rect 𝒱₀ (c : Thread nD τ) none Set.univ (m := mOut) (r := rh1 c t) (rh1_sub c t)) $$ HW; iintro HW
  iapply (wp_store 𝒱₀ (c : Thread nD τ) none Set.univ (m := mOut) (r := rh1 c t) (Mk := Finset.univ) (rh1_sub c t)) $$ HW; iintro HW
  rw [wp_ret]; imodintro
  isplitl [H6 H7 H8 H9]
  · isplitl [H6]; · iexact H6
    isplitl [H7]; · iexact H7
    isplitl [H8] <;> iassumption
  iexists _
  isplitr; rotate_left
  · iexact HW
  ipureintro
  intro i hi hlt
  rw [show k0_pay16 (kr m c) _ _ _ _ = oh1 m c t from rfl]
  refine (write1_at c t f (oh1 m c t) i hi).trans ?_
  split
  next h => exact (oAll_own1 m c i hi t h).symm
  next h => exact hf i hi (by omega)

set_option maxHeartbeats 1000000 in
/-- The loop: from any contents of the own window to the head outputs there. -/
theorem loop1 (c : Dev nD) (v5 v8 v9 v10 : BitVec 32)  {β : Type} {kk' : Unit → Prog (TpuEff nD τ sig (Elt F) Λ₀ .tc) β} {Q : β → sProp 𝕄} :
    iprop(rds1 m c ∗ land (wO1 c) c)
      ⊢ iprop(((rds1 m c ∗ pv (wO1 c) c fullShare (oAll m c)) -∗ WP c (kk' ⟨⟩) Q)
          -∗ WP c (Scf.Loop.for k0_t2_loop k0_t2_ok ⟨⟩ (lbody1 m c v5 v8 v9 v10 ) >>= kk') Q) := by
  unfold land
  iintro ⟨Hr, ⟨%f, HW⟩⟩
  iintro Hk
  iapply (Scf.wp_for_bind frame (wpE (defs₀ (F := F)) 𝒱₀ (c : Thread nD τ) none) Set.univ _ _ _ k0_t2_ok ⟨⟩ (lbody1 m c v5 v8 v9 v10 ) (linv1 m c)
    (fun t acc => trip1 m c v5 v8 v9 v10  t acc)) $$ [Hr HW]
  · unfold linv1
    isplitl [Hr]; · iexact Hr
    iexists f
    isplitr; · ipureintro; intro i hi h; exact absurd h (Nat.not_lt_zero _)
    iexact HW
  unfold linv1
  iintro %acc ⟨Hr, ⟨%g, %hg, HW⟩⟩
  iapply Hk
  isplitl [Hr]; · iexact Hr
  iapply (Entails.of_eq (pointsTo_congr (ℓ := lOut c) (q := fullShare) (I := (wO1 c).view.set) (f := g) (g := oAll m c) (fun i hi => hg i hi (by
    refine lt_of_lt_of_eq ?_ (show 8 = Scf.trips k0_t2_loop.lb k0_t2_loop.ub k0_t2_loop.st from trips2.symm)
    have h1 : (i 1).val < 2048 := (i 1).isLt
    omega))))
  iexact HW

end Cert.KProof

end
-- ==== Proof.Part5.lean ====
/-
  Part 5 of the body: the last columns arrive, keys and values are stored, and the first loop over the heads runs.
-/
module

public import proofs.«01_k».proof.Proof.HeadLoops

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

set_option maxHeartbeats 4000000 in
/-- Part 5 leaves the keys, the values, and the own heads' outputs at the first half of the positions. -/
theorem part5 (c : Dev nD) (v5 v8 v9 v10 : BitVec 32) (Kt : PUnit → sProp 𝕄) :
    iprop((records m K ∗ levAts L lv ∗ ow c [9, 10] ∗ (cell c 3 ∗ cell c 6)
        ∗ ((lUv c) ↦[Finset.univ \ (wUv c).view.set]{fullShare} (sUv m c))
        ∗ pb cc0_scratch1 c fullShare (rUk m c) ∗ pb cc0_scratch4 c fullShare (sUk m c)
        ∗ pb cc0_scratch6 c fullShare (qT m c) ∗ pb cc0_scratch7 c fullShare (qrT m c) ∗ anyb cc0_scratch8 c ∗ anyb cc0_scratch9 c
        ∗ land (wO0 c) c)
      ∗ ((ow c [9, 10] ∗ (semVal (kcell (c, 3)) 0 ∗ semVal (kcell (c, 6)) 0)
          ∗ pb cc0_scratch5 c fullShare (sUv m c) ∗ pb cc0_scratch2 c fullShare (rUv m c)
          ∗ pb cc0_scratch1 c fullShare (rUk m c) ∗ pb cc0_scratch4 c fullShare (sUk m c)
          ∗ rds0 m c ∗ pv (wO0 c) c fullShare (oAll m c))
        -∗ Kt ⟨⟩))
      ⊢ WP c (prog5 (F := F) c v5 v8 v9 v10 (kr m c) (c0T m c) (c0 m c) (c1T m c) (c1 m c)) Kt := by
  unfold prog5 WP
  rw [k0_part5_eq_skeleton]; unfold k0_part5_skel
  simp only [Prog.lift, Prog.bind_op, Prog.bind_ret, Prog.pure_eq_ret]
  iintro ⟨⟨#Hr, #Hlev, HO, ⟨C3, C6⟩, S5r, S1, S4, S6, S7, ⟨%f8, S8⟩, ⟨%f9, S9⟩, HW⟩, Hk⟩
  iapply (wp_wait_dma m K c 3 [9, 10] (by decide) pUv (wUv c) (sem := sWs2.sem) (by decide) rfl) $$ [C3 HO]
  · isplitr; · iexact Hr
    isplitr; · iexact Hlev
    isplitl [C3] <;> iassumption
  iintro ⟨HO, Z3, P3⟩
  ihave P3 := (show pay m 3 c ⊢ (pv (wUv c) c fullShare (sUv m c) : sProp 𝕄) from Entails.refl _) $$ P3
  ihave S5 := (split_uv (F := F) c fullShare (sUv m c)).2 $$ [P3 S5r]
  · isplitl [P3] <;> iassumption
  iapply (wp_wait_dma m K c 6 [9, 10] (by decide) (wUv c) pUv (sem := sWr2.sem) (by decide) rfl) $$ [C6 HO]
  · isplitr; · iexact Hr
    isplitr; · iexact Hlev
    isplitl [C6] <;> iassumption
  iintro ⟨HO, Z6, P6⟩
  ihave P6 := (show pay m 6 c ⊢ (pb cc0_scratch2 c fullShare (rUv m c) : sProp 𝕄) from Entails.of_eq (pv_whole (F := F) cc0_scratch2 c fullShare (rUv m c))) $$ P6
  unfold WP
  iapply (wp_load 𝒱₀ (c : Thread nD τ) none Set.univ (m := bUk) (Finset.subset_univ _)) $$ S4; iintro S4
  iapply (wp_load 𝒱₀ (c : Thread nD τ) none Set.univ (m := pUk) (Finset.subset_univ _)) $$ S1; iintro S1
  rw [rd_pUk]
  iapply (wp_load 𝒱₀ (c : Thread nD τ) none Set.univ (m := mK) (Finset.subset_univ _)) $$ S8; iintro S8
  iapply (wp_store 𝒱₀ (c : Thread nD τ) none Set.univ (m := mK) (r := Rect.unit (s := S1024x1024) ![0, 0] S1024x1024.size inb_S1024x1024_S1024x1024_0_0) (Mk := Finset.univ) (Finset.subset_univ _)) $$ S8; iintro S8
  rw [wr_mK]
  iapply (wp_load 𝒱₀ (c : Thread nD τ) none Set.univ (m := bUv) (Finset.subset_univ _)) $$ S5; iintro S5
  iapply (wp_load 𝒱₀ (c : Thread nD τ) none Set.univ (m := pUv) (Finset.subset_univ _)) $$ P6; iintro P6
  rw [rd_pUv]
  iapply (wp_load 𝒱₀ (c : Thread nD τ) none Set.univ (m := mV) (Finset.subset_univ _)) $$ S9; iintro S9
  iapply (wp_store 𝒱₀ (c : Thread nD τ) none Set.univ (m := mV) (r := Rect.unit (s := S1024x1024) ![0, 0] S1024x1024.size inb_S1024x1024_S1024x1024_0_0) (Mk := Finset.univ) (Finset.subset_univ _)) $$ S9; iintro S9
  rw [wr_mV]
  iapply (loop0 m c v5 v8 v9 v10 (c0T m c) (c0 m c) (c1T m c) (c1 m c)) $$ [S6 S7 S8 S9 HW]
  · isplitr [HW]
    · isplitl [S6]; · iexact S6
      isplitl [S7]; · iexact S7
      isplitl [S8]
      · iexact S8
      iexact S9
    iexact HW
  iintro ⟨Hrd, HW⟩
  unfold WP
  rw [wp_ret]; imodintro
  iapply Hk
  isplitl [HO]; · iexact HO
  isplitl [Z3 Z6]
  · isplitl [Z3] <;> iassumption
  isplitl [S5]; · iexact S5
  isplitl [P6]; · iexact P6
  isplitl [S1]; · iexact S1
  isplitl [S4]; · iexact S4
  isplitl [Hrd]; · iexact Hrd
  iexact HW

end Cert.KProof

end
-- ==== Proof.Part6.lean ====
/-
  Part 6 of the body: the heads' outputs at the first half are sent while the second half is computed, and sent too.
-/
module

public import proofs.«01_k».proof.Proof.HeadLoops

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

set_option maxHeartbeats 4000000 in
/-- Part 6 starts the two transfers of head outputs and leaves the own windows readable. -/
theorem part6 (c : Dev nD) (v5 v8 v9 v10 : BitVec 32) (Kt : PUnit → sProp 𝕄) :
    iprop((records m K ∗ ow c [9, 10]
        ∗ (dutyTok ER (kcell (c, 7)) 0 () ∗ dutyTok ER (kcell (peer c, 9)) 0 () ∗ dutyTok ER (kcell (c, 8)) 0 () ∗ dutyTok ER (kcell (peer c, 10)) 0 ())
        ∗ land (wO0 c) (peer c) ∗ land (wO1 c) (peer c)
        ∗ rds0 m c ∗ pv (wO0 c) c fullShare (oAll m c) ∗ land (wO1 c) c)
      ∗ ((ow c [] ∗ cred (tallyAt (kcell (c, 7)) () (amt 7)) ∗ cred (tallyAt (kcell (c, 8)) () (amt 8))
          ∗ rds0 m c ∗ pv (wO0 c) c fullShare.left (oAll m c) ∗ pv (wO1 c) c fullShare.left (oAll m c))
        -∗ Kt ⟨⟩))
      ⊢ WP c (prog6 (F := F) c v5 v8 v9 v10 (kr m c)) Kt := by
  unfold prog6 WP
  rw [k0_part6_eq_skeleton]; unfold k0_part6_skel
  simp only [Prog.lift, Prog.bind_op, Prog.bind_ret, Prog.pure_eq_ret]
  iintro ⟨⟨#Hr, HO, ⟨T7, T9, T8, T10⟩, G0, G1, Hrd, HW0, HW1⟩, Hk⟩
  ihave G0 := (show land (wO0 c) (peer c) ⊢ (iprop(∃ f, pv (wO0 c) (peer c) fullShare f) : sProp 𝕄) from Entails.refl _) $$ G0
  icases G0 with ⟨%g0, G0⟩
  ihave G1 := (show land (wO1 c) (peer c) ⊢ (iprop(∃ f, pv (wO1 c) (peer c) fullShare f) : sProp 𝕄) from Entails.refl _) $$ G1
  icases G1 with ⟨%g1, G1⟩
  ihave HW0 := (halves (F := F) (lOut c) (wO0 c).view.set (oAll m c)).1 $$ HW0
  icases HW0 with ⟨HW0l, HW0r⟩
  iapply (wp_send_peer m K c _ (dev5_eq c) 7 9 [10] (src := wO0 c) (dst := wO0 c) (sS := .dma sOs0.sem) (sR := .dma sOr0.sem) (by decide) (by decide)
    fullShare.right (oAll m c) g0 rfl rfl (Entails.refl _) (pay9_peer m c g0)) $$ [HW0r G0 HO T7 T9]
  · isplitr; · iexact Hr
    isplitl [HW0r]; · iexact HW0r
    isplitl [G0]; · iexact G0
    isplitl [HO]; · iexact HO
    isplitl [T7] <;> iassumption
  iintro ⟨C7, HO⟩
  iapply (loop1 m c v5 v8 v9 v10) $$ [Hrd HW1]
  · isplitl [Hrd] <;> iassumption
  iintro ⟨Hrd, HW1⟩
  ihave HW1 := (halves (F := F) (lOut c) (wO1 c).view.set (oAll m c)).1 $$ HW1
  icases HW1 with ⟨HW1l, HW1r⟩
  iapply (wp_send_peer m K c _ (dev6_eq c) 8 10 [] (src := wO1 c) (dst := wO1 c) (sS := .dma sOs1.sem) (sR := .dma sOr1.sem) (by decide) (by decide)
    fullShare.right (oAll m c) g1 rfl rfl (Entails.refl _) (pay10_peer m c g1)) $$ [HW1r G1 HO T8 T10]
  · isplitr; · iexact Hr
    isplitl [HW1r]; · iexact HW1r
    isplitl [G1]; · iexact G1
    isplitl [HO]; · iexact HO
    isplitl [T8] <;> iassumption
  iintro ⟨C8, HO⟩
  rw [wp_ret]; imodintro
  iapply Hk
  isplitl [HO]; · iexact HO
  isplitl [C7]; · iexact C7
  isplitl [C8]; · iexact C8
  isplitl [Hrd]; · iexact Hrd
  isplitl [HW0l]; · iexact HW0l
  iexact HW1l

end Cert.KProof

end
-- ==== Proof.Part7.lean ====
/-
  Part 7 of the body: the peer's head outputs at the first half arrive, and the first half of the result is stored.
-/
module

public import proofs.«01_k».proof.Proof.HeadLoops

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- The whole half that the product with the output weights reads. -/
abbrev r19aR : Rect S2x2048x512 := Rect.unit (s := S2x2048x512) ![0, 0, 0] S1x2048x512.size inb_S2x2048x512_S1x2048x512_0_0_0

/-- The read for the first half of the result stays in the first half. -/
theorem r19a_sub (c : Dev nD) : (mOut.access r19aR).set ⊆ half0 c := by
  intro i hi
  have hs : (mOut.access r19aR).set = r19aR.set := View.set_slice_whole cc0_scratch10 _
  rw [hs, Rect.mem_set_unit] at hi
  refine (mem_half0 c i).2 ?_
  have h := hi 0
  simp [S1x2048x512] at h
  omega

/-- Own and received outputs of half 0, held for reading. -/
theorem read_half0 (c : Dev nD) (f : Buf (Elt F) (lOut c)) :
    iprop(pv (wO0 c) c fullShare.left f ∗ pv (wO0 (peer c)) c fullShare f)
      ⊢ (iprop(((lOut c) ↦[half0 c]{fullShare.left} f) ∗ pv (wO0 (peer c)) c fullShare.right f) : sProp 𝕄) := by
  iintro ⟨H1, H2⟩
  ihave H2 := (halves (F := F) (lOut c) (wO0 (peer c)).view.set f).1 $$ H2
  icases H2 with ⟨H2l, H2r⟩
  isplitr [H2r]
  · iapply (join0 c fullShare.left f)
    isplitl [H1] <;> iassumption
  iexact H2r

/-- The whole half that the product with the output weights reads. -/
abbrev r19bR : Rect S2x2048x512 := Rect.unit (s := S2x2048x512) ![1, 0, 0] S1x2048x512.size inb_S2x2048x512_S1x2048x512_1_0_0

/-- The read for the second half of the result stays in the second half. -/
theorem r19b_sub (c : Dev nD) : (mOut.access r19bR).set ⊆ half1 c := by
  intro i hi
  have hs : (mOut.access r19bR).set = r19bR.set := View.set_slice_whole cc0_scratch10 _
  rw [hs, Rect.mem_set_unit] at hi
  refine (mem_half1 c i).2 ?_
  have h := hi 0
  simp [S1x2048x512] at h
  omega

/-- Own and received outputs of half 1, held for reading. -/
theorem read_half1 (c : Dev nD) (f : Buf (Elt F) (lOut c)) :
    iprop(pv (wO1 c) c fullShare.left f ∗ pv (wO1 (peer c)) c fullShare f)
      ⊢ (iprop(((lOut c) ↦[half1 c]{fullShare.left} f) ∗ pv (wO1 (peer c)) c fullShare.right f) : sProp 𝕄) := by
  iintro ⟨H1, H2⟩
  ihave H2 := (halves (F := F) (lOut c) (wO1 (peer c)).view.set f).1 $$ H2
  icases H2 with ⟨H2l, H2r⟩
  isplitr [H2r]
  · iapply (join1 c fullShare.left f)
    isplitl [H1] <;> iassumption
  iexact H2r

set_option maxHeartbeats 4000000 in
/-- Part 7 stores the first half of the result. -/
theorem part7 (c : Dev nD) (v5 v8 v9 : BitVec 32) (f : Vec F S1x1024x2048 .bf16) (Kt : PUnit → sProp 𝕄) :
    iprop((records m K ∗ levAts L lv ∗ ow c [] ∗ cell c 9 ∗ pv (wO0 c) c fullShare.left (oAll m c)
        ∗ pb cc0_stg7_0 c fullShare (vO m c) ∗ pb cc0_stg8_0 c fullShare f)
      ∗ ((ow c [] ∗ semVal (kcell (c, 9)) 0
          ∗ (((lOut c) ↦[half0 c]{fullShare.left} (oAll m c)) ∗ pv (wO0 (peer c)) c fullShare.right (oAll m c))
          ∗ pb cc0_stg7_0 c fullShare (vO m c) ∗ pb cc0_stg8_0 c fullShare ((aOut.access r8a).write (Elt F) f (outA m c) Finset.univ))
        -∗ Kt ⟨⟩))
      ⊢ WP c (prog7 (F := F) c v5 v8 v9) Kt := by
  unfold prog7 WP
  rw [k0_part7_eq_skeleton]; unfold k0_part7_skel
  simp only [Prog.lift, Prog.bind_op, Prog.bind_ret, Prog.pure_eq_ret]
  iintro ⟨⟨#Hr, #Hlev, HO, C9, HW, H7, H8⟩, Hk⟩
  iapply (wp_wait_dma m K c 9 [] (by decide) (wO0 c) (wO0 c) (sem := sOr0.sem) (by decide) rfl) $$ [C9 HO]
  · isplitr; · iexact Hr
    isplitr; · iexact Hlev
    isplitl [C9] <;> iassumption
  iintro ⟨HO, Z9, P9⟩
  ihave P9 := (show pay m 9 c ⊢ (pv (wO0 (peer c)) c fullShare (oAll m c) : sProp 𝕄) from Entails.refl _) $$ P9
  ihave HW := (read_half0 (F := F) c (oAll m c)) $$ [HW P9]
  · isplitl [HW]; · iexact HW
    iexact P9
  icases HW with ⟨HW, HWr⟩
  unfold WP
  iapply (wp_load_rect 𝒱₀ (c : Thread nD τ) none Set.univ (m := mOut) (r := r19aR) (r19a_sub c)) $$ HW; iintro HW
  iapply (wp_load 𝒱₀ (c : Thread nD τ) none Set.univ (m := aO) (Finset.subset_univ _)) $$ H7; iintro H7
  rw [rd_aO]
  iapply (wp_load 𝒱₀ (c : Thread nD τ) none Set.univ (m := aOut) (Finset.subset_univ _)) $$ H8; iintro H8
  iapply (wp_store 𝒱₀ (c : Thread nD τ) none Set.univ (m := aOut) (r := r8a) (Mk := Finset.univ) (Finset.subset_univ _)) $$ H8; iintro H8
  rw [wp_ret]; imodintro
  iapply Hk
  isplitl [HO]; · iexact HO
  isplitl [Z9]; · iexact Z9
  isplitl [HW HWr]
  · isplitl [HW] <;> iassumption
  isplitl [H7]; · iexact H7
  iexact H8

end Cert.KProof

end
-- ==== Proof.OutWrite.lean ====
/-
  The result block after its two halves are stored.
-/
module

public import proofs.«01_k».proof.Proof.HeadLoops

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- The first store of the result has the rows below 512. -/
theorem mem_r8a (i : S1x1024x2048.Idx) : Iff (i ∈ (aOut.access r8a).set) ((i 1).val < 512) := by
  have hs : (aOut.access r8a).set = r8a.set := View.set_slice_whole cc0_stg8_0 _
  have h0 : (i 0).val < 1 := (i 0).isLt
  have h1 : (i 1).val < 1024 := (i 1).isLt
  have h2 : (i 2).val < 2048 := (i 2).isLt
  rw [hs, Rect.mem_set_unit]
  constructor
  · intro h
    have h := h 1
    simp [S1x512x2048] at h
    omega
  · intro h a
    match a with
    | ⟨0, _⟩ => show 0 ≤ (i 0).val ∧ (i 0).val < 0 + 1; omega
    | ⟨1, _⟩ => show 0 ≤ (i 1).val ∧ (i 1).val < 0 + 512; omega
    | ⟨2, _⟩ => show 0 ≤ (i 2).val ∧ (i 2).val < 0 + 2048; omega

/-- Where the first store puts an element. -/
theorem emb_r8a (i : S1x1024x2048.Idx) (h : (i 1).val < 512) : r8a.emb (ixO (i 1).val (i 2).val) = i := by
  have h0 : (i 0).val < 1 := (i 0).isLt
  have h1 : (i 1).val < 1024 := (i 1).isLt
  have h2 : (i 2).val < 2048 := (i 2).isLt
  funext a
  apply Fin.ext
  rw [ValueKit.rect_emb_unit_val]
  match a with
  | ⟨0, _⟩ => show 0 + 0 = (i 0).val; omega
  | ⟨1, _⟩ => show 0 + (i 1).val % 512 = (i 1).val; omega
  | ⟨2, _⟩ => show 0 + (i 2).val % 2048 = (i 2).val; omega

/-- The second store of the result has the other rows. -/
theorem mem_r8b (i : S1x1024x2048.Idx) : Iff (i ∈ (aOut.access r8b).set) (¬ (i 1).val < 512) := by
  have hs : (aOut.access r8b).set = r8b.set := View.set_slice_whole cc0_stg8_0 _
  have h0 : (i 0).val < 1 := (i 0).isLt
  have h1 : (i 1).val < 1024 := (i 1).isLt
  have h2 : (i 2).val < 2048 := (i 2).isLt
  rw [hs, Rect.mem_set_unit]
  constructor
  · intro h
    have h := h 1
    simp [S1x512x2048] at h
    omega
  · intro h a
    match a with
    | ⟨0, _⟩ => show 0 ≤ (i 0).val ∧ (i 0).val < 0 + 1; omega
    | ⟨1, _⟩ => show 512 ≤ (i 1).val ∧ (i 1).val < 512 + 512; omega
    | ⟨2, _⟩ => show 0 ≤ (i 2).val ∧ (i 2).val < 0 + 2048; omega

/-- Where the second store puts an element. -/
theorem emb_r8b (i : S1x1024x2048.Idx) (h : ¬ (i 1).val < 512) : r8b.emb (ixO (i 1).val (i 2).val) = i := by
  have h0 : (i 0).val < 1 := (i 0).isLt
  have h1 : (i 1).val < 1024 := (i 1).isLt
  have h2 : (i 2).val < 2048 := (i 2).isLt
  funext a
  apply Fin.ext
  rw [ValueKit.rect_emb_unit_val]
  match a with
  | ⟨0, _⟩ => show 0 + 0 = (i 0).val; omega
  | ⟨1, _⟩ => show 512 + (i 1).val % 512 = (i 1).val; omega
  | ⟨2, _⟩ => show 0 + (i 2).val % 2048 = (i 2).val; omega

/-- The two stores together leave the kernel's result, whatever was there. -/
theorem out_write (c : Dev nD) (f : Vec F S1x1024x2048 .bf16) :
    (aOut.access r8b).write (Elt F) ((aOut.access r8a).write (Elt F) f (outA m c) Finset.univ) (outB m c) Finset.univ = outAt m c := by
  funext i
  unfold outAt
  split
  next h =>
    rw [View.write_of_not_mem (v := aOut.access r8b) _ _ Finset.univ fun hm => (mem_r8b i).1 hm h]
    have hr := write_whole_emb (F := F) cc0_stg8_0 r8a f (outA m c) (ixO (i 1).val (i 2).val)
    rw [emb_r8a i h] at hr
    exact hr
  next h =>
    have hr := write_whole_emb (F := F) cc0_stg8_0 r8b ((aOut.access r8a).write (Elt F) f (outA m c) Finset.univ) (outB m c) (ixO (i 1).val (i 2).val)
    rw [emb_r8b i h] at hr
    exact hr

end Cert.KProof

end
-- ==== Proof.Body.lean ====
/-
  The whole body of the kernel on one device, from its parts.
-/
module

public import proofs.«01_k».proof.Proof.Part1
public import proofs.«01_k».proof.Proof.Part2
public import proofs.«01_k».proof.Proof.Part3
public import proofs.«01_k».proof.Proof.Part4
public import proofs.«01_k».proof.Proof.Part5
public import proofs.«01_k».proof.Proof.Part6
public import proofs.«01_k».proof.Proof.Part7
public import proofs.«01_k».proof.Proof.OutWrite

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 11 → ℕ)

/-- The positions of a device at its eleven cells. -/
def poss (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0 ∗ atPos ER (kcell (c, 9)) 0 ∅ 0 ∗ atPos ER (kcell (c, 10)) 0 ∅ 0)
/-- The tokens of the payments that a device makes. -/
def payToks (c : Dev nD) : sProp 𝕄 :=
  iprop(dutyTok ER (kcell (peer c, 0)) 0 () ∗ dutyTok ER (kcell (c, 1)) 0 () ∗ dutyTok ER (kcell (c, 2)) 0 () ∗ dutyTok ER (kcell (c, 3)) 0 () ∗ dutyTok ER (kcell (peer c, 4)) 0 () ∗ dutyTok ER (kcell (peer c, 5)) 0 () ∗ dutyTok ER (kcell (peer c, 6)) 0 () ∗ dutyTok ER (kcell (c, 7)) 0 () ∗ dutyTok ER (kcell (c, 8)) 0 () ∗ dutyTok ER (kcell (peer c, 9)) 0 () ∗ dutyTok ER (kcell (peer c, 10)) 0 ())
/-- The credits of the cells that the peer pays. -/
def credsOf (c : Dev nD) : sProp 𝕄 :=
  iprop(cred (tallyAt (kcell (c, 0)) () (amt 0)) ∗ cred (tallyAt (kcell (c, 4)) () (amt 4)) ∗ cred (tallyAt (kcell (c, 5)) () (amt 5)) ∗ cred (tallyAt (kcell (c, 6)) () (amt 6)) ∗ cred (tallyAt (kcell (c, 9)) () (amt 9)) ∗ cred (tallyAt (kcell (c, 10)) () (amt 10)))
/-- The staged inputs. -/
def stgs (c : Dev nD) : sProp 𝕄 :=
  iprop(pb cc0_stg0_0 c fullShare (vX m c) ∗ pb cc0_stg1_0 c fullShare (vDkv m c) ∗ pb cc0_stg2_0 c fullShare (vUk m c) ∗ pb cc0_stg3_0 c fullShare (vUv m c) ∗ pb cc0_stg4_0 c fullShare (vQ m c) ∗ pb cc0_stg5_0 c fullShare (vQr m c) ∗ pb cc0_stg6_0 c fullShare (vKr m c) ∗ pb cc0_stg7_0 c fullShare (vO m c))
/-- The scratch buffers, at any contents. -/
def scrs (c : Dev nD) : sProp 𝕄 :=
  iprop(anyb (F := F) cc0_scratch0 c ∗ anyb (F := F) cc0_scratch1 c ∗ anyb (F := F) cc0_scratch2 c ∗ anyb (F := F) cc0_scratch3 c ∗ anyb (F := F) cc0_scratch4 c ∗ anyb (F := F) cc0_scratch5 c ∗ anyb (F := F) cc0_scratch6 c ∗ anyb (F := F) cc0_scratch7 c ∗ anyb (F := F) cc0_scratch8 c ∗ anyb (F := F) cc0_scratch9 c ∗ anyb (F := F) cc0_scratch10 c)
/-- The eleven cells' counters at zero. -/
def zeros (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0)

/-- All shares of the head outputs together are the whole buffer again. -/
theorem out_back (c : Dev nD) (f : Buf (Elt F) (lOut c)) :
    iprop((((lOut c) ↦[half0 c]{fullShare.left} f) ∗ pv (wO0 (peer c)) c fullShare.right f ∗ pv (wO0 c) c fullShare.right f)
        ∗ (((lOut c) ↦[half1 c]{fullShare.left} f) ∗ pv (wO1 (peer c)) c fullShare.right f ∗ pv (wO1 c) c fullShare.right f))
      ⊢ (pb cc0_scratch10 c fullShare f : sProp 𝕄) := by
  iintro ⟨⟨A, B, C⟩, ⟨A1, B1, C1⟩⟩
  ihave R0 := (join0 (F := F) c fullShare.right f) $$ [B C]
  · isplitl [C] <;> iassumption
  ihave R1 := (join1 (F := F) c fullShare.right f) $$ [B1 C1]
  · isplitl [C1] <;> iassumption
  ihave H0 := (halves (F := F) (lOut c) (half0 c) f).2 $$ [A R0]
  · isplitl [A] <;> iassumption
  ihave H1 := (halves (F := F) (lOut c) (half1 c) f).2 $$ [A1 R1]
  · isplitl [A1] <;> iassumption
  iapply (join_out (F := F) c fullShare f)
  isplitl [H0] <;> iassumption

/-- A whole scratch buffer, at any contents, as a landing place. -/
theorem land_of_any (c : Dev nD) : iprop(anyb (F := F) cc0_scratch0 c ∗ anyb (F := F) cc0_scratch1 c ∗ anyb (F := F) cc0_scratch2 c)
    ⊢ (iprop(land pDkv c ∗ land pUk c ∗ land pUv c) : sProp 𝕄) := by
  unfold land anyb
  iintro ⟨⟨%f0, H0⟩, ⟨%f1, H1⟩, ⟨%f2, H2⟩⟩
  isplitl [H0]
  · iexists f0; iapply (Entails.of_eq (pv_whole (F := F) cc0_scratch0 c fullShare f0).symm); iexact H0
  isplitl [H1]
  · iexists f1; iapply (Entails.of_eq (pv_whole (F := F) cc0_scratch1 c fullShare f1).symm); iexact H1
  iexists f2; iapply (Entails.of_eq (pv_whole (F := F) cc0_scratch2 c fullShare f2).symm); iexact H2

/-- The head outputs' buffer, at any contents, as the four landing windows. -/
theorem lands_of_any (c : Dev nD) : anyb (F := F) cc0_scratch10 c
    ⊢ (iprop((land (wO0 c) c ∗ land (wO0 (peer c)) c) ∗ land (wO1 c) c ∗ land (wO1 (peer c)) c) : sProp 𝕄) := by
  unfold land anyb
  iintro ⟨%f, H⟩
  ihave H := (split_out (F := F) c fullShare f) $$ H
  icases H with ⟨⟨A, B⟩, ⟨C, D⟩⟩
  isplitl [A B]
  · isplitl [A]
    · iexists f; iexact A
    iexists f; iexact B
  isplitl [C]
  · iexists f; iexact C
  iexists f; iexact D

set_option maxHeartbeats 16000000 in
/-- The body: from the staged inputs, the scratch and the protocol's ghost state to the result block, everything else returned. -/
theorem sound_body (c : Dev nD) (Kt : PUnit → sProp 𝕄) :
    iprop((records m K ∗ levAts L lv ∗ ow c dues ∗ poss c ∗ payToks c ∗ credsOf c ∗ stgs m c ∗ anyb cc0_stg8_0 c ∗ scrs c)
      ∗ ((ow c [] ∗ zeros c ∗ stgs m c ∗ pb cc0_stg8_0 c fullShare (outAt m c) ∗ scrs c) -∗ Kt ⟨⟩))
      ⊢ WP c (cc0_body (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14) Kt := by
  unfold WP
  rw [cc0_body_eq_skeleton]; unfold cc0_body_skel
  rw [wp_bind]
  unfold poss payToks credsOf stgs scrs
  iintro ⟨⟨#Hr, #Hlev, HO, ⟨A0, A1, A2, A3, A4, A5, A6, A7, A8, A9, A10⟩, ⟨T0, T1, T2, T3, T4, T5, T6, T7, T8, T9, T10⟩, ⟨C0, C4, C5, C6, C9, C10⟩,
    ⟨I0, I1, I2, I3, I4, I5, I6, I7⟩, ⟨%f8, I8⟩, ⟨S0, S1, S2, S3, S4, S5, S6, S7, S8, S9, S10⟩⟩, Hk⟩
  ihave G := (land_of_any (F := F) c) $$ [S0 S1 S2]
  · isplitl [S0]; · iexact S0
    isplitl [S1] <;> iassumption
  icases G with ⟨G0, G1, G2⟩
  ihave W := (lands_of_any (F := F) c) $$ S10
  icases W with ⟨⟨W0, W0p⟩, ⟨W1, W1p⟩⟩
  iapply (part1 m c)
  isplitl [I1 I2 I3 S3 S4 S5]
  · isplitl [I1]; · iexact I1
    isplitl [I2]; · iexact I2
    isplitl [I3]; · iexact I3
    isplitl [S3]; · iexact S3
    isplitl [S4] <;> iassumption
  iintro %v5 %v8 %v9 %v10 %v11 %v30 ⟨I1, I2, I3, S3, S4, S5⟩
  dsimp only
  rw [wp_bind]
  iapply (part2 m K c v5 v8 v9 v30)
  isplitl [HO C0 A0 T0 T1 T2 T4 T5 G0 G1 G2 W0p W1p S3 S4]
  · isplitr; · iexact Hr
    isplitr; · iexact Hlev
    isplitl [HO]; · iexact HO
    isplitl [C0]; · iexact C0
    isplitl [A0]; · iexact A0
    isplitl [T0 T1 T2 T4 T5]
    · isplitl [T0]; · iexact T0
      isplitl [T1]; · iexact T1
      isplitl [T2]; · iexact T2
      isplitl [T4] <;> iassumption
    isplitl [G0 G1 G2 W0p W1p]
    · isplitl [G0]; · iexact G0
      isplitl [G1]; · iexact G1
      isplitl [G2]; · iexact G2
      isplitl [W0p] <;> iassumption
    isplitl [S3] <;> iassumption
  iintro ⟨HO, Z0, C1, C2, G6, Wp0, Wp1, S3, S4⟩
  dsimp only
  rw [wp_bind]
  iapply (part3 m K c v10 v11)
  isplitl [HO T3 T6 G6 S5 I0 I4 I5 I6 S3 S6 S7]
  · isplitr; · iexact Hr
    isplitl [HO]; · iexact HO
    isplitl [T3]; · iexact T3
    isplitl [T6]; · iexact T6
    isplitl [G6]; · iexact G6
    isplitl [S5]; · iexact S5
    isplitl [I0 I4 I5 I6]
    · isplitl [I0]; · iexact I0
      isplitl [I4]; · iexact I4
      isplitl [I5] <;> iassumption
    isplitl [S3]; · iexact S3
    isplitl [S6] <;> iassumption
  iintro ⟨HO, C3, S5, ⟨I0, I4, I5, I6⟩, S3, S6, S7⟩
  dsimp only
  rw [wp_bind]
  iapply (part4 m K c v5 v8 v9)
  isplitl [HO C1 A1 C4 A4 C2 A2 C5 A5 S3 S4]
  · isplitr; · iexact Hr
    isplitr; · iexact Hlev
    isplitl [HO]; · iexact HO
    isplitl [C1 A1 C4 A4 C2 A2 C5 A5]
    · isplitl [C1 A1]; · (isplitl [C1] <;> iassumption)
      isplitl [C4 A4]; · (isplitl [C4] <;> iassumption)
      isplitl [C2 A2]; · (isplitl [C2] <;> iassumption)
      isplitl [C5] <;> iassumption
    isplitl [S3] <;> iassumption
  iintro ⟨HO, ⟨Z1, Z4, Z2, Z5⟩, S3, S0, S4, S1⟩
  dsimp only
  rw [wp_bind]
  iapply (part5 m K c v5 v8 v9 v10)
  isplitl [HO C3 A3 C6 A6 S5 S1 S4 S6 S7 S8 S9 W0]
  · isplitr; · iexact Hr
    isplitr; · iexact Hlev
    isplitl [HO]; · iexact HO
    isplitl [C3 A3 C6 A6]
    · isplitl [C3 A3]; · (isplitl [C3] <;> iassumption)
      isplitl [C6] <;> iassumption
    isplitl [S5]; · iexact S5
    isplitl [S1]; · iexact S1
    isplitl [S4]; · iexact S4
    isplitl [S6]; · iexact S6
    isplitl [S7]; · iexact S7
    isplitl [S8]; · iexact S8
    isplitl [S9] <;> iassumption
  iintro ⟨HO, ⟨Z3, Z6⟩, S5, S2, S1, S4, Hrd, W0⟩
  rw [wp_bind]
  iapply (part6 m K c v5 v8 v9 v10)
  isplitl [HO T7 T8 T9 T10 Wp0 Wp1 Hrd W0 W1]
  · isplitr; · iexact Hr
    isplitl [HO]; · iexact HO
    isplitl [T7 T8 T9 T10]
    · isplitl [T7]; · iexact T7
      isplitl [T9]; · iexact T9
      isplitl [T8] <;> iassumption
    isplitl [Wp0]; · iexact Wp0
    isplitl [Wp1]; · iexact Wp1
    isplitl [Hrd]; · iexact Hrd
    isplitl [W0] <;> iassumption
  iintro ⟨HO, C7, C8, ⟨S6, S7, S8, S9⟩, W0, W1⟩
  rw [wp_bind]
  iapply (part7 m K c v5 v8 v9 f8)
  isplitl [HO C9 A9 W0 I7 I8]
  · isplitr; · iexact Hr
    isplitr; · iexact Hlev
    isplitl [HO]; · iexact HO
    isplitl [C9 A9]; · (isplitl [C9] <;> iassumption)
    isplitl [W0]; · iexact W0
    isplitl [I7] <;> iassumption
  iintro ⟨HO, Z9, ⟨W0, W0r⟩, I7, I8⟩
  simp only [Prog.lift, Prog.bind_op, Prog.bind_ret, Prog.pure_eq_ret]
  ihave C10 := (show iprop(cred (tallyAt (kcell (c, 10)) () (amt 10)) ∗ atPos ER (kcell (c, 10)) 0 ∅ 0) ⊢ (cell c 10 : sProp 𝕄) from Entails.refl _) $$ [C10 A10]
  · isplitl [C10] <;> iassumption
  iapply (wp_wait_dma m K c 10 [] (by decide) (wO1 c) (wO1 c) (sem := sOr1.sem) (by decide) rfl) $$ [C10 HO]
  · isplitr; · iexact Hr
    isplitr; · iexact Hlev
    isplitl [C10] <;> iassumption
  iintro ⟨HO, Z10, P10⟩
  ihave P10 := (show pay m 10 c ⊢ (pv (wO1 (peer c)) c fullShare (oAll m c) : sProp 𝕄) from Entails.refl _) $$ P10
  ihave W1 := (read_half1 (F := F) c (oAll m c)) $$ [W1 P10]
  · isplitl [W1] <;> iassumption
  icases W1 with ⟨W1, W1r⟩
  unfold WP
  iapply (wp_load_rect 𝒱₀ (c : Thread nD τ) none Set.univ (m := mOut) (r := r19bR) (r19b_sub c)) $$ W1; iintro W1
  iapply (wp_load 𝒱₀ (c : Thread nD τ) none Set.univ (m := aO) (Finset.subset_univ _)) $$ I7; iintro I7
  rw [rd_aO]
  iapply (wp_load 𝒱₀ (c : Thread nD τ) none Set.univ (m := aOut) (Finset.subset_univ _)) $$ I8; iintro I8
  iapply (wp_store 𝒱₀ (c : Thread nD τ) none Set.univ (m := aOut) (r := r8b) (Mk := Finset.univ) (Finset.subset_univ _)) $$ I8; iintro I8
  ihave I8 := (show pb cc0_stg8_0 c fullShare ((aOut.access r8b).write (Elt F) ((aOut.access r8a).write (Elt F) f8 (outA m c) Finset.univ) (outB m c) Finset.univ)
    ⊢ (pb cc0_stg8_0 c fullShare (outAt m c) : sProp 𝕄) from Entails.of_eq (by rw [out_write])) $$ [I8]
  · iexact I8
  ihave C7 := (show iprop(cred (tallyAt (kcell (c, 7)) () (amt 7)) ∗ atPos ER (kcell (c, 7)) 0 ∅ 0) ⊢ (cell c 7 : sProp 𝕄) from Entails.refl _) $$ [C7 A7]
  · isplitl [C7] <;> iassumption
  ihave C8 := (show iprop(cred (tallyAt (kcell (c, 8)) () (amt 8)) ∗ atPos ER (kcell (c, 8)) 0 ∅ 0) ⊢ (cell c 8 : sProp 𝕄) from Entails.refl _) $$ [C8 A8]
  · isplitl [C8] <;> iassumption
  iapply (wp_wait_dma m K c 7 [] (by decide) (wO0 c) (wO0 c) (sem := sOs0.sem) (by decide) rfl) $$ [C7 HO]
  · isplitr; · iexact Hr
    isplitr; · iexact Hlev
    isplitl [C7] <;> iassumption
  iintro ⟨HO, Z7, P7⟩
  iapply (wp_wait_dma m K c 8 [] (by decide) (wO1 c) (wO1 c) (sem := sOs1.sem) (by decide) rfl) $$ [C8 HO]
  · isplitr; · iexact Hr
    isplitr; · iexact Hlev
    isplitl [C8] <;> iassumption
  iintro ⟨HO, Z8, P8⟩
  ihave P7 := (show pay m 7 c ⊢ (pv (wO0 c) c fullShare.right (oAll m c) : sProp 𝕄) from Entails.refl _) $$ P7
  ihave P8 := (show pay m 8 c ⊢ (pv (wO1 c) c fullShare.right (oAll m c) : sProp 𝕄) from Entails.refl _) $$ P8
  ihave S10 := (out_back (F := F) c (oAll m c)) $$ [W0 W0r P7 W1 W1r P8]
  · isplitl [W0 W0r P7]
    · isplitl [W0]; · iexact W0
      isplitl [W0r]; · iexact W0r
      iexact P7
    isplitl [W1]; · iexact W1
    isplitl [W1r]; · iexact W1r
    iexact P8
  unfold WP
  rw [wp_ret]; imodintro
  iapply Hk
  isplitl [HO]; · iexact HO
  isplitl [Z0 Z1 Z2 Z3 Z4 Z5 Z6 Z7 Z8 Z9 Z10]
  · unfold zeros
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    iexact Z10
  isplitl [I0 I1 I2 I3 I4 I5 I6 I7]
  · skip
    isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  isplitl [I8]; · iexact I8
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  iexists _; iexact S10

end Cert.KProof

end
-- ==== Proof.Region.lean ====
/-
  The launch: the ghost state is dealt out, every device runs its body, and the arrays after the run are read off.
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Thread nD τ → PrngReg) (K : Dev nD × Fin 11 → ℕ)

/-- What a device's body starts from, the staged blocks and the scratch aside. -/
def start (c : Dev nD) : sProp 𝕄 :=
  iprop((∃ K, records m K ∗ poss c ∗ payToks c) ∗ credsOf c ∗ levAts L lv)

/-- What a device holds before its body. -/
def Φ₀ (c : Dev nD) : sProp 𝕄 := iprop(start m c ∗ scrs c)
/-- What a device holds after its body. -/
def Φ₁ (c : Dev nD) : sProp 𝕄 := iprop(scrs (F := F) c ∗ zeros c)

/-- The data of the one pipeline on device `c`: the staged blocks stay, the result block becomes the kernel's result. -/
def dats (_ : Fin 1) (c : Dev nD) : Dat τ (Elt F) Unit ℕ UU ℕ cfg0 c where
  A w := m ((cfg0.win w).arr.view.loc (c : Thread nD τ))
  after w _ := match w with
    | ⟨0, _⟩ => vX m c
    | ⟨1, _⟩ => vDkv m c
    | ⟨2, _⟩ => vUk m c
    | ⟨3, _⟩ => vUv m c
    | ⟨4, _⟩ => vQ m c
    | ⟨5, _⟩ => vQr m c
    | ⟨6, _⟩ => vKr m c
    | ⟨7, _⟩ => vO m c
    | ⟨8, _⟩ => outAt m c
  Φ t := match t with
    | ⟨0, _⟩ => Φ₀ m c
    | ⟨_ + 1, _⟩ => Φ₁ c
  q _ := fullShare
  owed t := match t with
    | ⟨0, _⟩ => due (peer c) dues
    | ⟨_ + 1, _⟩ => 0

/-- Window 0 is fetched at the one grid step. -/
theorem fetch_0 (t : Fin cfg0.N) : (cfg0.win (0 : Fin 9)).fetch t = true := by rw [fin_N0 t]; rfl
/-- Window 1 is fetched at the one grid step. -/
theorem fetch_1 (t : Fin cfg0.N) : (cfg0.win (1 : Fin 9)).fetch t = true := by rw [fin_N0 t]; rfl
/-- Window 2 is fetched at the one grid step. -/
theorem fetch_2 (t : Fin cfg0.N) : (cfg0.win (2 : Fin 9)).fetch t = true := by rw [fin_N0 t]; rfl
/-- Window 3 is fetched at the one grid step. -/
theorem fetch_3 (t : Fin cfg0.N) : (cfg0.win (3 : Fin 9)).fetch t = true := by rw [fin_N0 t]; rfl
/-- Window 4 is fetched at the one grid step. -/
theorem fetch_4 (t : Fin cfg0.N) : (cfg0.win (4 : Fin 9)).fetch t = true := by rw [fin_N0 t]; rfl
/-- Window 5 is fetched at the one grid step. -/
theorem fetch_5 (t : Fin cfg0.N) : (cfg0.win (5 : Fin 9)).fetch t = true := by rw [fin_N0 t]; rfl
/-- Window 6 is fetched at the one grid step. -/
theorem fetch_6 (t : Fin cfg0.N) : (cfg0.win (6 : Fin 9)).fetch t = true := by rw [fin_N0 t]; rfl
/-- Window 7 is fetched at the one grid step. -/
theorem fetch_7 (t : Fin cfg0.N) : (cfg0.win (7 : Fin 9)).fetch t = true := by rw [fin_N0 t]; rfl

/-- A staging buffer owned whole, at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A staging buffer with known contents, owned. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The ownership of a staging buffer as a points-to. -/
theorem stg_out (c : Dev nD) (b : Ref sig .tc) (X : b.ty.Contents (Elt F)) : stg c b X ⊢ (pb b c fullShare X : sProp 𝕄) := by
  iintro ⟨%f, %h, H⟩
  subst h
  iexact H
/-- A points-to as the ownership of a staging buffer. -/
theorem stg_in (c : Dev nD) (b : Ref sig .tc) (X : b.ty.Contents (Elt F)) : (pb b c fullShare X : sProp 𝕄) ⊢ stg c b X := by
  iintro H
  iexists X; isplitr; · (ipureintro; rfl)
  iexact H

/-- What the body starts from, buffer by buffer. -/
def bodyPre (c : Dev nD) : sProp 𝕄 :=
  iprop(Φ₀ m c ∗ (dats m 0 c).owesAt () t0_0.castSucc
    ∗ (∃ d, stg c cc0_stg0_0 ((dats m 0 c).before (0 : Fin 9) t0_0 d))
    ∗ (∃ d, stg c cc0_stg1_0 ((dats m 0 c).before (1 : Fin 9) t0_0 d))
    ∗ (∃ d, stg c cc0_stg2_0 ((dats m 0 c).before (2 : Fin 9) t0_0 d))
    ∗ (∃ d, stg c cc0_stg3_0 ((dats m 0 c).before (3 : Fin 9) t0_0 d))
    ∗ (∃ d, stg c cc0_stg4_0 ((dats m 0 c).before (4 : Fin 9) t0_0 d))
    ∗ (∃ d, stg c cc0_stg5_0 ((dats m 0 c).before (5 : Fin 9) t0_0 d))
    ∗ (∃ d, stg c cc0_stg6_0 ((dats m 0 c).before (6 : Fin 9) t0_0 d))
    ∗ (∃ d, stg c cc0_stg7_0 ((dats m 0 c).before (7 : Fin 9) t0_0 d))
    ∗ (∃ d, stg c cc0_stg8_0 ((dats m 0 c).before (8 : Fin 9) t0_0 d)))
/-- What the body ends with, buffer by buffer. -/
def bodyPost (c : Dev nD) : sProp 𝕄 :=
  iprop(Φ₁ c ∗ (dats m 0 c).owesAt () t0_0.succ
    ∗ stg c cc0_stg0_0 (vX m c) ∗ stg c cc0_stg1_0 (vDkv m c) ∗ stg c cc0_stg2_0 (vUk m c) ∗ stg c cc0_stg3_0 (vUv m c) ∗ stg c cc0_stg4_0 (vQ m c) ∗ stg c cc0_stg5_0 (vQr m c) ∗ stg c cc0_stg6_0 (vKr m c) ∗ stg c cc0_stg7_0 (vO m c) ∗ stg c cc0_stg8_0 (outAt m c))

/-- Before the body, window 0 stages the device's argument. -/
theorem before_0 (c : Dev nD) (d) : (dats m 0 c).before (0 : Fin 9) t0_0 d = vX m c := by
  unfold Dat.before; rw [if_pos (fetch_0 t0_0)]; rfl
/-- Before the body, window 1 stages the device's argument. -/
theorem before_1 (c : Dev nD) (d) : (dats m 0 c).before (1 : Fin 9) t0_0 d = vDkv m c := by
  unfold Dat.before; rw [if_pos (fetch_1 t0_0)]; rfl
/-- Before the body, window 2 stages the device's argument. -/
theorem before_2 (c : Dev nD) (d) : (dats m 0 c).before (2 : Fin 9) t0_0 d = vUk m c := by
  unfold Dat.before; rw [if_pos (fetch_2 t0_0)]; rfl
/-- Before the body, window 3 stages the device's argument. -/
theorem before_3 (c : Dev nD) (d) : (dats m 0 c).before (3 : Fin 9) t0_0 d = vUv m c := by
  unfold Dat.before; rw [if_pos (fetch_3 t0_0)]; rfl
/-- Before the body, window 4 stages the device's argument. -/
theorem before_4 (c : Dev nD) (d) : (dats m 0 c).before (4 : Fin 9) t0_0 d = vQ m c := by
  unfold Dat.before; rw [if_pos (fetch_4 t0_0)]; rfl
/-- Before the body, window 5 stages the device's argument. -/
theorem before_5 (c : Dev nD) (d) : (dats m 0 c).before (5 : Fin 9) t0_0 d = vQr m c := by
  unfold Dat.before; rw [if_pos (fetch_5 t0_0)]; rfl
/-- Before the body, window 6 stages the device's argument. -/
theorem before_6 (c : Dev nD) (d) : (dats m 0 c).before (6 : Fin 9) t0_0 d = vKr m c := by
  unfold Dat.before; rw [if_pos (fetch_6 t0_0)]; rfl
/-- Before the body, window 7 stages the device's argument. -/
theorem before_7 (c : Dev nD) (d) : (dats m 0 c).before (7 : Fin 9) t0_0 d = vO m c := by
  unfold Dat.before; rw [if_pos (fetch_7 t0_0)]; rfl

/-- A staging buffer before the body holds its block. -/
theorem pre_stg (c : Dev nD) (b : Ref sig .tc) {D : Type} (X : b.ty.Contents (Elt F)) (g : D → b.ty.Contents (Elt F)) (h : ∀ d, g d = X) :
    (iprop(∃ d, stg c b (g d)) : sProp 𝕄) ⊢ pb b c fullShare X := by
  iintro ⟨%d, H⟩
  rw [h d]
  iapply (stg_out c b X); iexact H

set_option maxHeartbeats 4000000 in
/-- The body takes what the pipeline hands it to what the pipeline takes back. -/
theorem body_run (c : Dev nD) : bodyPre m c ⊢ WP c (cc0_body (F := F) aX (Memref.isWhole_whole _) aDkv (Memref.isWhole_whole _) aUk (Memref.isWhole_whole _) aUv (Memref.isWhole_whole _) aQ (Memref.isWhole_whole _) aQr (Memref.isWhole_whole _) aKr (Memref.isWhole_whole _) aO (Memref.isWhole_whole _) aOut (Memref.isWhole_whole _) pDkv (Memref.isWhole_whole _) pUk (Memref.isWhole_whole _) pUv (Memref.isWhole_whole _) bDkv (Memref.isWhole_whole _) bUk (Memref.isWhole_whole _) bUv (Memref.isWhole_whole _) mQ (Memref.isWhole_whole _) mQr (Memref.isWhole_whole _) mK (Memref.isWhole_whole _) mV (Memref.isWhole_whole _) mOut (Memref.isWhole_whole _) cc0_scratch11 cc0_scratch12 cc0_scratch13 cc0_scratch14) (fun _ => bodyPost m c) := by
  unfold bodyPre Φ₀ start Dat.owesAt Pipeline.owesWithin
  rw [show (dats m 0 c).owed t0_0.castSucc = due (peer c) dues from rfl]
  iintro ⟨⟨⟨⟨%K, #Hr, Hat, Htok⟩, Hcr, #Hlev⟩, Hs⟩, ⟨%W, %hW, HO⟩, J0, J1, J2, J3, J4, J5, J6, J7, ⟨%d8, %f8, %h8, J8⟩⟩
  ihave J0 := (pre_stg c cc0_stg0_0 (vX m c) _ (before_0 m c)) $$ J0
  ihave J1 := (pre_stg c cc0_stg1_0 (vDkv m c) _ (before_1 m c)) $$ J1
  ihave J2 := (pre_stg c cc0_stg2_0 (vUk m c) _ (before_2 m c)) $$ J2
  ihave J3 := (pre_stg c cc0_stg3_0 (vUv m c) _ (before_3 m c)) $$ J3
  ihave J4 := (pre_stg c cc0_stg4_0 (vQ m c) _ (before_4 m c)) $$ J4
  ihave J5 := (pre_stg c cc0_stg5_0 (vQr m c) _ (before_5 m c)) $$ J5
  ihave J6 := (pre_stg c cc0_stg6_0 (vKr m c) _ (before_6 m c)) $$ J6
  ihave J7 := (pre_stg c cc0_stg7_0 (vO m c) _ (before_7 m c)) $$ J7
  iapply (sound_body m K c (fun _ => bodyPost m c))
  isplitl
  · isplitr; · iexact Hr
    isplitr; · iexact Hlev
    isplitl [HO]; · (unfold ow; iexists W; iexact HO)
    isplitl [Hat]; · iexact Hat
    isplitl [Htok]; · iexact Htok
    isplitl [Hcr]; · iexact Hcr
    isplitl [J0 J1 J2 J3 J4 J5 J6 J7]
    · unfold stgs
      isplitl [J0]; · iexact J0
      isplitl [J1]; · iexact J1
      isplitl [J2]; · iexact J2
      isplitl [J3]; · iexact J3
      isplitl [J4]; · iexact J4
      isplitl [J5]; · iexact J5
      isplitl [J6]; · iexact J6
      iexact J7
    isplitl [J8]; · (iexists f8; iexact J8)
    iexact Hs
  unfold ow stgs bodyPost Φ₁ Dat.owesAt Pipeline.owesWithin
  rw [show (dats m 0 c).owed t0_0.succ = 0 from rfl]
  iintro ⟨⟨%W', HO⟩, Hz, ⟨J0, J1, J2, J3, J4, J5, J6, J7⟩, J8, Hs⟩
  isplitl [Hs Hz]
  · isplitl [Hs] <;> iassumption
  isplitl [HO]
  · iexists W'
    isplitr; · (ipureintro; exact fun _ _ => Or.inl trivial)
    iexact HO
  isplitl [J0]; · (iapply (stg_in c cc0_stg0_0 (vX m c)); iexact J0)
  isplitl [J1]; · (iapply (stg_in c cc0_stg1_0 (vDkv m c)); iexact J1)
  isplitl [J2]; · (iapply (stg_in c cc0_stg2_0 (vUk m c)); iexact J2)
  isplitl [J3]; · (iapply (stg_in c cc0_stg3_0 (vUv m c)); iexact J3)
  isplitl [J4]; · (iapply (stg_in c cc0_stg4_0 (vQ m c)); iexact J4)
  isplitl [J5]; · (iapply (stg_in c cc0_stg5_0 (vQr m c)); iexact J5)
  isplitl [J6]; · (iapply (stg_in c cc0_stg6_0 (vKr m c)); iexact J6)
  isplitl [J7]; · (iapply (stg_in c cc0_stg7_0 (vO m c)); iexact J7)
  iapply (stg_in c cc0_stg8_0 (outAt m c)); iexact J8

set_option maxRecDepth 8000 in
set_option maxHeartbeats 2000000 in
/-- The obligation of the pipeline's launch: at its one point the body does this. -/
theorem body_obligation (c : Dev nD) : BodyObligation (dats m 0 c) (defs₀ (F := F)) 𝒱₀ () Set.univ := fun t => by
  rw [fin_N0 t]
  rw [bigSep_W0, bigSep_W0]
  exact Entails.trans (Entails.of_eq (by simp only [owns_stg]; rfl)) ((body_run m c).trans (Entails.of_eq (by simp only [owns_stg]; rfl)))

end Cert.KProof

end
-- ==== Proof.Launch.lean ====
/-
  The launch: the ghost state is dealt out among the devices, every device runs its body, and the arrays after the run are read off.
-/
module

public import proofs.«01_k».proof.Proof.Region
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 11 → ℕ)

/-- The kernel's own semaphores. -/
abbrev osem : Fin 10 → SemLoc sig := fun i => csem i.succ

/-- The semaphores outside the pipeline are the kernel's own. -/
theorem ownSemFacts : Pipeline.OwnSemFacts cfg0.spec osem := by decide

/-- Every window is held with the full share. -/
theorem share_eq (c : Dev nD) (w : Fin cfg0.W) : (dats m 0 c).share w = fullShare := by unfold Dat.share; split <;> rfl

/-- The cells of different devices and numbers are different. -/
theorem kcell_injective : Function.Injective (kcell : Dev nD × Fin 11 → GSem nD τ sig) := by
  rintro ⟨c, k⟩ ⟨c', k'⟩ h
  have h1 : c = c' := congrArg (fun g : GSem nD τ sig => g.1.1) h
  have h2 : idx (csem k) = idx (csem k') := congrArg (fun g : GSem nD τ sig => idx g.2) h
  rw [idx_csem, idx_csem] at h2
  exact Prod.ext h1 (Option.some.inj h2)

/-- All cells of all devices, and the token of each cell's one payment. -/
def allCells : Finset (GSem nD τ sig) := Finset.univ.map ⟨kcell, kcell_injective⟩
/-- The tokens of all duties of all cells. -/
def allToks : Finset (GSem nD τ sig × ℕ × Unit) :=
  Finset.univ.map ⟨fun ck : Dev nD × Fin 11 => (kcell ck, 0, ()), fun _ _ h => kcell_injective (congrArg Prod.fst h)⟩

/-- The ghost state the launch starts from. -/
def u₀ : UU :=
  (initOf (Pipeline.cells cfgs cellOf_inj) (Pipeline.launchToks cfgs cellOf_inj), initOf allCells allToks)

/-- The tokens of the payments that a device's own cells receive. -/
def toks (c : Dev nD) : sProp 𝕄 := bigSep Finset.univ fun k : Fin 11 => dutyTok ER (kcell (c, k)) 0 ()

/-- What a device is dealt before the cells' invariants are made. -/
def G (c : Dev nD) : sProp 𝕄 :=
  iprop((bigSep Finset.univ fun k : Fin 11 => roundState ER (rd m) (kcell (c, k)) 0)
    ∗ (bigSep Finset.univ fun k : Fin 11 => iprop(atPos ER (kcell (c, k)) 0 ∅ 0 ∗ reached ER (kcell (c, k)) 0)) ∗ toks c)

/-- What it has afterwards. -/
def G' (c : Dev nD) : sProp 𝕄 := iprop(∃ K, records m K ∗ poss c ∗ payToks c)

/-- A separating product over the eleven cells, written out. -/
theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := bigSep_univ_eq_bigSepL [0, 1, 2, 3, 4, 5, 6, 7, 8, 9, 10] (by decide) (by decide) Φ

/-- From the initial ghost state every device gets its part. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The scoped semaphores of a device at zero, cell by cell. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl
/-- The barrier cell of a device at zero. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- All eleven cells of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems0_eq, unscopedSems0_eq, bigSep_fin11]
  iintro ⟨H, HB⟩
  isplitl [HB]; · iexact HB
  iexact H

/-- Every cell of a device gets its invariant, at a name of its own. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  have hall : iprop((bigSep Finset.univ fun k : Fin 11 => semVal (kcell (c, k)) 0) ∗ bigSep Finset.univ fun k : Fin 11 => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  imod hall $$ [Hv Hst] with Hinv
  · isplitl [Hv] <;> iassumption
  imodintro
  isplitl [Hinv]; · iexact Hinv
  isplitl [Hat] <;> iassumption

/-- Each pair exchanges the tokens of the cells that the other one pays. -/
theorem toks_swap : (bigSep Finset.univ fun c : Dev nD => (toks c : sProp 𝕄)) ⊢ bigSep Finset.univ fun c : Dev nD => payToks c := by
  have hsw (k : Fin 11) : (bigSep Finset.univ fun c : Dev nD => (dutyTok ER (kcell (c, k)) 0 () : sProp 𝕄))
      = bigSep Finset.univ fun c : Dev nD => dutyTok ER (kcell (peer c, k)) 0 () :=
    bigSep_univ_equiv swap (fun c : Dev nD => (dutyTok ER (kcell (c, k)) 0 () : sProp 𝕄))
  unfold toks payToks
  simp only [bigSep_fin11, bigSep_sep']
  rw [hsw 0, hsw 4, hsw 5, hsw 6, hsw 9, hsw 10]

/-- A persistent assertion is handed to each member of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The parts dealt out by cell are regrouped by device. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 11 => iprop(∃ κ : ℕ, cellInv ER (rd m) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (rd m) κ (kcell ck) : sProp 𝕄))) $$ HI
  icases HK with ⟨%K, #HI⟩
  ihave Htk := (toks_swap (F := F)) $$ Htok
  have hG (c : Dev nD) : iprop(records m K ∗ (poss c ∗ payToks c)) ⊢ (G' m c : sProp 𝕄) := by
    unfold G'
    iintro ⟨H1, H2, H3⟩
    iexists K
    isplitl [H1]; · iexact H1
    isplitl [H2] <;> iassumption
  iapply (with_persistent (R := records m K) fun c _ => hG c)
  isplitr
  · unfold records; isplitl; · iexact HI
    iexact HR
  have hp : (bigSep Finset.univ fun c : Dev nD => bigSep Finset.univ fun k : Fin 11 => (atPos ER (kcell (c, k)) 0 ∅ 0 : sProp 𝕄))
      ⊢ bigSep Finset.univ fun c : Dev nD => poss c := bigSep_mono fun c _ =>
        Entails.of_eq (show (bigSep Finset.univ fun k : Fin 11 => (atPos ER (kcell (c, k)) 0 ∅ 0 : sProp 𝕄)) = poss c by unfold poss; rw [bigSep_fin11])
  ihave Hat := hp $$ Hat
  rw [bigSep_sep']
  isplitl [Hat] <;> iassumption

/-- The launch's step over all devices at once: cells are made and tokens are exchanged. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- What a device may wait for, paid by its peer. -/
theorem creds (c : Dev nD) : (Pipeline.launchCred (fun d => due (peer d) dues) c : sProp 𝕄) ⊢ credsOf c := by
  rw [Pipeline.launchCred_of_sum (fun d => due (peer d) dues) (fun d => due d dues)
    (Equiv.sum_comp swap (fun d => due d dues)) (fun d g h => by
      by_contra hn
      refine h (Finsupp.ext fun u => ?_)
      by_contra hz
      obtain ⟨k, -, hk⟩ := due_pos (Nat.pos_of_ne_zero hz)
      exact hn (by rw [hk]))]
  unfold credsOf due due due due due due due
  iintro H
  ihave H := (cred_add _ _).1 $$ H; icases H with ⟨H, C0⟩
  ihave H := (cred_add _ _).1 $$ H; icases H with ⟨H, C4⟩
  ihave H := (cred_add _ _).1 $$ H; icases H with ⟨H, C5⟩
  ihave H := (cred_add _ _).1 $$ H; icases H with ⟨H, C6⟩
  ihave H := (cred_add _ _).1 $$ H; icases H with ⟨H, C9⟩
  ihave H := (cred_add _ _).1 $$ H; icases H with ⟨-, C10⟩
  isplitl [C0]; · iexact C0
  isplitl [C4]; · iexact C4
  isplitl [C5]; · iexact C5
  isplitl [C6]; · iexact C6
  isplitl [C9]; · iexact C9
  iexact C10

/-- What a device holds at the start of its body, from its parts. -/
theorem start_intro (c : Dev nD) :
    iprop(Pipeline.unscopedRestP Pipeline.Prefetch.none cfg0.spec c (fun b => m ((c : Thread nD τ).loc b)) ∗ levAts L lv
        ∗ Pipeline.launchCred (fun d => due (peer d) dues) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- The state before the region, from its parts. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs
  iintro ⟨Hs, -, Hr⟩
  isplitl [Hs] <;> iassumption

/-- The state after the region gives the counters back at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scrs zeros
  iintro ⟨Hr, HB, Hz⟩
  isplitl [HB]; · iexact HB
  isplitl [Hz] <;> iassumption

/-- The pipeline's own waits are below everything that the kernel owes. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c (peer c) _ dues (by fin_cases w <;> fin_cases s <;> decide)
    · show _ ⊢ MayWait _ _ () 0
      rw [MayWait_zero]; iintro -; iempintro

/-! ### The run -/

set_option maxRecDepth 8000 in
/-- From any memory with all counters at zero, every fair execution of the program ends, with each window's array at its
    computed contents on every device and all counters at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => due (peer d) dues) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- After the run every argument array is as before. -/
theorem arr_in (c : Dev nD) (w : Fin cfg0.W) (h : (cfg0.win w).isOut = false) :
    (dats m 0 c).arrAt w cfg0.N = m ((cfg0.win w).arr.view.loc (c : Thread nD τ)) := (dats m 0 c).arrAt_in w h _

end Cert.KProof

end
-- ==== Proof.Same.lean ====
/-
  The printed kernel at machine floats and its idealization are one text: their parts, procedures and main program are
  equal by computation.
-/
module

public import proofs.«01_k».proof.Defs
public import proofs.«01_k».proof.Proof.Gen.Kernel
public import proofs.«01_k».proof.Proof.Gen.KernelIdeal
public import Idealize.ShloMosaic.Adequacy

@[expose] public section
noncomputable section
namespace Cert.KProof
open Idealize.ShloMosaic

set_option maxRecDepth 65536
set_option maxHeartbeats 4000000

/-- Part 1 of the two prints is the same. -/
theorem same_part1 : Cert.Kernel.k0_part1 (F := Bits) = Cert.KernelIdeal.k0_part1 (F := Bits) := rfl
/-- Part 2 of the two prints is the same. -/
theorem same_part2 : Cert.Kernel.k0_part2 (F := Bits) = Cert.KernelIdeal.k0_part2 (F := Bits) := rfl
/-- Part 3 of the two prints is the same. -/
theorem same_part3 : Cert.Kernel.k0_part3 (F := Bits) = Cert.KernelIdeal.k0_part3 (F := Bits) := rfl
/-- Part 4 of the two prints is the same. -/
theorem same_part4 : Cert.Kernel.k0_part4 (F := Bits) = Cert.KernelIdeal.k0_part4 (F := Bits) := rfl
/-- Part 5 of the two prints is the same. -/
theorem same_part5 : Cert.Kernel.k0_part5 (F := Bits) = Cert.KernelIdeal.k0_part5 (F := Bits) := rfl
/-- Part 6 of the two prints is the same. -/
theorem same_part6 : Cert.Kernel.k0_part6 (F := Bits) = Cert.KernelIdeal.k0_part6 (F := Bits) := rfl
/-- Part 7 of the two prints is the same. -/
theorem same_part7 : Cert.Kernel.k0_part7 (F := Bits) = Cert.KernelIdeal.k0_part7 (F := Bits) := rfl
/-- The bodies of the two prints are the same. -/
theorem same_body : Cert.Kernel.cc0_body (F := Bits) = Cert.KernelIdeal.cc0_body (F := Bits) := rfl
/-- The procedures of the two prints are the same. -/
theorem same_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
/-- The procedures with the pipeline of the two prints are the same. -/
theorem same_defs : Cert.Kernel.defs (F := Bits) = Cert.KernelIdeal.defs (F := Bits) :=
  congrArg (Pipeline.defs (Cert.KernelIdeal.pcfgs (F := Bits))) same_defs₀
/-- The main programs of the two prints are the same. -/
theorem same_main : Cert.Kernel.main (F := Bits) = Cert.KernelIdeal.main (F := Bits) := rfl

end Cert.KProof
end
-- ==== Proof.Frames.lean ====
/-
  The frame claims: the kernel at machine floats, its idealization and the reference each end with their arguments as
  before and every semaphore counter at zero.
-/
module

public import proofs.«01_k».proof.Proof.Launch
public import proofs.«01_k».proof.Proof.Same
public import proofs.«01_k».proof.Proof.Gen.ReferenceIdeal
public import proofs.«01_k».proof.Proof.Gen.ReferenceIdeal.Run
public import Idealize.ShloMosaic.Lib.StableHlo.RunHlo
public import Idealize.ShloMosaic.Lib.Claim

@[expose] public section
noncomputable section
namespace Cert.KProof
open Idealize.ShloMosaic Idealize.SL.Sem

variable {F : FTy → Type} [FloatOps F]

set_option maxRecDepth 8000 in
/-- The kernel's frame, at any floats, in terms of its idealization's program. -/
theorem run_frame (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) :=
  (θ_run Cert.KernelIdeal.defs _ _).mono (fun _ h => ⟨fun c =>
    ⟨(h.1 c 0).trans (arr_in m c 0 rfl), (h.1 c 1).trans (arr_in m c 1 rfl), (h.1 c 2).trans (arr_in m c 2 rfl), (h.1 c 3).trans (arr_in m c 3 rfl),
     (h.1 c 4).trans (arr_in m c 4 rfl), (h.1 c 5).trans (arr_in m c 5 rfl), (h.1 c 6).trans (arr_in m c 6 rfl), (h.1 c 7).trans (arr_in m c 7 rfl)⟩, h.2⟩)
    (run_main m g)

/-- The idealized kernel's frame. -/
theorem frame_ideal : Cert.quiescent_KernelIdeal := fun m g _ => run_frame m g

/-- The kernel's frame at machine floats: its procedures and main program are those of the idealization. -/
theorem frame_bits : Cert.quiescent_Kernel := fun m g _ => by
  have h := run_frame (F := Bits) m g
  rw [← same_defs, ← same_main] at h
  exact h

/-- The reference's frame: host operations alone. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.KProof
end
-- ==== Proof.KerValue.lean ====
/-
  What the kernel's stores hold over the extended reals: each payload read at an index.
-/
module

public import proofs.«01_k».proof.Proof.Contents
public import Idealize.ShloMosaic.Lib.Pointwise

@[expose] public section

set_option maxRecDepth 16384

noncomputable section

namespace Cert.KProof.Ker

open Cert.KernelIdeal Cert.KernelIdeal.Gen
open Idealize.ShloMosaic

/-- The scale of the scores. -/
def σ : EReal := Ideal.ofBits .f32 0x3DA1E89B#32

/-- The cast of the down-projection keeps every element. -/
theorem pay2_at (x : FVec Ideal S2048x128 .bf16) (i : Fin 2048) (j : Fin 128) : k0_pay2 x (ix2 i j) = x (ix2 i j) := by
  pointwise [k0_pay2]
/-- The cast of the keys' up-projection keeps every element. -/
theorem pay3_at (x : FVec Ideal S128x2048 .bf16) (i : Fin 128) (j : Fin 2048) : k0_pay3 x (ix2 i j) = x (ix2 i j) := by
  pointwise [k0_pay3]
/-- The cast of the values' up-projection keeps every element. -/
theorem pay4_at (x : FVec Ideal S128x2048 .bf16) (i : Fin 128) (j : Fin 2048) : k0_pay4 x (ix2 i j) = x (ix2 i j) := by
  pointwise [k0_pay4]

/-- The transposed queries, scaled, at an index. -/
theorem pay6_at (x : FVec Ideal S1x1024x2048 .bf16) (wq : FVec Ideal S2048x1024 .bf16) (r s : Fin 1024) :
    k0_pay6 x wq (ix2 r s) = (∑ k : Fin 2048, wq (ix2 k r) * x (ix3 0 s k)) * σ := by
  pointwise [k0_pay6, k0_pay5, σ, Ideal.ofBits_zero_f32]

/-- The transposed rotary queries, scaled, at an index. -/
theorem pay7_at (x : FVec Ideal S1x1024x2048 .bf16) (wq : FVec Ideal S2048x256 .bf16) (r : Fin 256) (s : Fin 1024) :
    k0_pay7 x wq (ix2 r s) = (∑ k : Fin 2048, wq (ix2 k r) * x (ix3 0 s k)) * σ := by
  pointwise [k0_pay7, k0_pay5, σ, Ideal.ofBits_zero_f32]

/-- The rotary key at an index. -/
theorem pay8_at (x : FVec Ideal S1x1024x2048 .bf16) (wk : FVec Ideal S2048x32 .bf16) (s : Fin 1024) (d : Fin 32) :
    k0_pay8 x wk (ix2 s d) = ∑ k : Fin 2048, wk (ix2 k d) * x (ix3 0 s k) := by
  pointwise [k0_pay8, k0_pay5, Ideal.ofBits_zero_f32]

/-- The transposed latent of the device's own half at an index. -/
theorem pay9_at (x : FVec Ideal S1x1024x2048 .bf16) (wd : FVec Ideal S2048x128 .bf16) (j : Fin 128) (s : Fin 1024) :
    k0_pay9 x wd (ix2 j s) = ∑ k : Fin 2048, wd (ix2 k j) * x (ix3 0 s k) := by
  pointwise [k0_pay9, k0_pay5, Ideal.ofBits_zero_f32]

/-- The latent of the device's own half at an index. -/
theorem pay10_at (x : FVec Ideal S1x1024x2048 .bf16) (wd : FVec Ideal S2048x128 .bf16) (s : Fin 1024) (j : Fin 128) :
    k0_pay10 x wd (ix2 s j) = ∑ k : Fin 2048, wd (ix2 k j) * x (ix3 0 s k) := by
  pointwise [k0_pay10, k0_pay9, k0_pay5, Ideal.ofBits_zero_f32]

/-- The transposed latent of the peer's half at an index. -/
theorem pay11_at (x : FVec Ideal S1x1024x2048 .bf16) (wd : FVec Ideal S2048x128 .bf16) (j : Fin 128) (s : Fin 1024) :
    k0_pay11 (k0_pay5 x) wd (ix2 j s) = ∑ k : Fin 2048, wd (ix2 k j) * x (ix3 0 s k) := by
  pointwise [k0_pay11, k0_pay5, Ideal.ofBits_zero_f32]

/-- The latent of the peer's half at an index. -/
theorem pay12_at (x : FVec Ideal S1x1024x2048 .bf16) (wd : FVec Ideal S2048x128 .bf16) (s : Fin 1024) (j : Fin 128) :
    k0_pay12 (k0_pay5 x) wd (ix2 s j) = ∑ k : Fin 2048, wd (ix2 k j) * x (ix3 0 s k) := by
  pointwise [k0_pay12, k0_pay11, k0_pay5, Ideal.ofBits_zero_f32]

/-- The keys at an index: both halves of the latent contribute. -/
theorem pay13_at (a b : FVec Ideal S1024x128 .bf16) (u v : FVec Ideal S128x1024 .bf16) (s r : Fin 1024) :
    k0_pay13 a b u v (ix2 s r) = (∑ j : Fin 128, a (ix2 s j) * u (ix2 j r)) + ∑ j : Fin 128, b (ix2 s j) * v (ix2 j r) := by
  pointwise [k0_pay13, Ideal.ofBits_zero_f32]

/-- The transposed values at an index: both halves of the latent contribute. -/
theorem pay14_at (a b : FVec Ideal S128x1024 .bf16) (u v : FVec Ideal S128x1024 .bf16) (r s : Fin 1024) :
    k0_pay14 a b u v (ix2 r s) = (∑ j : Fin 128, u (ix2 j r) * a (ix2 j s)) + ∑ j : Fin 128, v (ix2 j r) * b (ix2 j s) := by
  pointwise [k0_pay14, Ideal.ofBits_zero_f32]

/-- The score of a key position against a query position, as the head loops compute it. -/
def scr (k : FVec Ideal S1024x128 .bf16) (q : FVec Ideal S128x512 .bf16) (k' : FVec Ideal S1024x32 .bf16) (q' : FVec Ideal S32x512 .bf16) (t : Fin 1024) (s : Fin 512) : EReal :=
  (∑ d : Fin 128, k (ix2 t d) * q (ix2 d s)) + ∑ d : Fin 32, k' (ix2 t d) * q' (ix2 d s)

/-- A head's output at the first half of the rows, at an index. -/
theorem pay15_at (k' : FVec Ideal S1024x32 .bf16) (k : FVec Ideal S1024x128 .bf16) (q : FVec Ideal S128x512 .bf16) (q' : FVec Ideal S32x512 .bf16)
    (v : FVec Ideal S128x1024 .bf16) (d : Fin 128) (s : Fin 512) :
    k0_pay15 k' k q q' v (ix3 0 d s) = (∑ t : Fin 1024, v (ix2 d t) * Ideal.exp (scr k q k' q' t s)) * Ideal.div 1 (∑ t : Fin 1024, Ideal.exp (scr k q k' q' t s)) := by
  pointwise [k0_pay15, scr, Ideal.ofBits_zero_f32, Ideal.ofBits_one_f32]

/-- A head's output at the second half of the rows, at an index. -/
theorem pay16_at (k' : FVec Ideal S1024x32 .bf16) (k : FVec Ideal S1024x128 .bf16) (q : FVec Ideal S128x512 .bf16) (q' : FVec Ideal S32x512 .bf16)
    (v : FVec Ideal S128x1024 .bf16) (d : Fin 128) (s : Fin 512) :
    k0_pay16 k' k q q' v (ix3 0 d s) = (∑ t : Fin 1024, v (ix2 d t) * Ideal.exp (scr k q k' q' t s)) * Ideal.div 1 (∑ t : Fin 1024, Ideal.exp (scr k q k' q' t s)) := by
  pointwise [k0_pay16, scr, Ideal.ofBits_zero_f32, Ideal.ofBits_one_f32]

/-- The first half of the result at an index. -/
theorem pay17_at (o : FVec Ideal S1x2048x512 .bf16) (wo : FVec Ideal S2048x2048 .bf16) (s : Fin 512) (e : Fin 2048) :
    k0_pay17 o wo (ix3 0 s e) = ∑ r : Fin 2048, o (ix3 0 r s) * wo (ix2 r e) := by
  pointwise [k0_pay17, Ideal.ofBits_zero_f32]

/-- The second half of the result at an index. -/
theorem pay1_at (o : FVec Ideal S1x2048x512 .bf16) (wo : FVec Ideal S2048x2048 .bf16) (s : Fin 512) (e : Fin 2048) :
    k0_pay1 o wo (ix3 0 s e) = ∑ r : Fin 2048, o (ix3 0 r s) * wo (ix2 r e) := by
  pointwise [k0_pay1, Ideal.ofBits_zero_f32]

end Cert.KProof.Ker

end
-- ==== Proof.Held.lean ====
/-
  The blocks that the kernel reads, at an index: the staged blocks are the device's arguments, and a rectangle read is a
  shifted read.
-/
module

public import proofs.«01_k».proof.Proof.KerValue
public import Idealize.ShloMosaic.Lib.Pipeline.ValueKit

@[expose] public section

set_option maxRecDepth 16384

noncomputable section

namespace Cert.KProof.Ker

open Cert.KernelIdeal Cert.KernelIdeal.Gen Cert.KProof
open Idealize.ShloMosaic Idealize.ShloMosaic.TcCoe

variable (m : (ℓ : Loc nD τ sig) → Buf (Elt Ideal) ℓ)

/-- On every device the staged block of the input is the device's argument. -/
theorem vX_eq (c : Dev nD) : vX m c = m ((c : Thread nD τ).loc main_arg0) := by
  funext i
  refine congrArg (m ((c : Thread nD τ).loc main_arg0)) (funext fun a => Fin.ext ?_)
  match a with
  | ⟨0, _⟩ => show 0 * _ + 1 * (i 0).val = (i 0).val; omega
  | ⟨1, _⟩ => show 0 * _ + 1 * (i 1).val = (i 1).val; omega
  | ⟨2, _⟩ => show 0 * _ + 1 * (i 2).val = (i 2).val; omega

/-- On every device the staged block of the down-projection is the device's argument. -/
theorem vDkv_eq (c : Dev nD) : vDkv m c = m ((c : Thread nD τ).loc main_arg1) := by
  funext i
  refine congrArg (m ((c : Thread nD τ).loc main_arg1)) (funext fun a => Fin.ext ?_)
  match a with
  | ⟨0, _⟩ => show 0 * _ + 1 * (i 0).val = (i 0).val; omega
  | ⟨1, _⟩ => show 0 * _ + 1 * (i 1).val = (i 1).val; omega

/-- On every device the staged block of the keys' up-projection is the device's argument. -/
theorem vUk_eq (c : Dev nD) : vUk m c = m ((c : Thread nD τ).loc main_arg2) := by
  funext i
  refine congrArg (m ((c : Thread nD τ).loc main_arg2)) (funext fun a => Fin.ext ?_)
  match a with
  | ⟨0, _⟩ => show 0 * _ + 1 * (i 0).val = (i 0).val; omega
  | ⟨1, _⟩ => show 0 * _ + 1 * (i 1).val = (i 1).val; omega

/-- On every device the staged block of the values' up-projection is the device's argument. -/
theorem vUv_eq (c : Dev nD) : vUv m c = m ((c : Thread nD τ).loc main_arg3) := by
  funext i
  refine congrArg (m ((c : Thread nD τ).loc main_arg3)) (funext fun a => Fin.ext ?_)
  match a with
  | ⟨0, _⟩ => show 0 * _ + 1 * (i 0).val = (i 0).val; omega
  | ⟨1, _⟩ => show 0 * _ + 1 * (i 1).val = (i 1).val; omega

/-- On every device the staged block of the queries' projection is the device's argument. -/
theorem vQ_eq (c : Dev nD) : vQ m c = m ((c : Thread nD τ).loc main_arg4) := by
  funext i
  refine congrArg (m ((c : Thread nD τ).loc main_arg4)) (funext fun a => Fin.ext ?_)
  match a with
  | ⟨0, _⟩ => show 0 * _ + 1 * (i 0).val = (i 0).val; omega
  | ⟨1, _⟩ => show 0 * _ + 1 * (i 1).val = (i 1).val; omega

/-- On every device the staged block of the rotary queries' projection is the device's argument. -/
theorem vQr_eq (c : Dev nD) : vQr m c = m ((c : Thread nD τ).loc main_arg5) := by
  funext i
  refine congrArg (m ((c : Thread nD τ).loc main_arg5)) (funext fun a => Fin.ext ?_)
  match a with
  | ⟨0, _⟩ => show 0 * _ + 1 * (i 0).val = (i 0).val; omega
  | ⟨1, _⟩ => show 0 * _ + 1 * (i 1).val = (i 1).val; omega

/-- On every device the staged block of the rotary key's projection is the device's argument. -/
theorem vKr_eq (c : Dev nD) : vKr m c = m ((c : Thread nD τ).loc main_arg6) := by
  funext i
  refine congrArg (m ((c : Thread nD τ).loc main_arg6)) (funext fun a => Fin.ext ?_)
  match a with
  | ⟨0, _⟩ => show 0 * _ + 1 * (i 0).val = (i 0).val; omega
  | ⟨1, _⟩ => show 0 * _ + 1 * (i 1).val = (i 1).val; omega

/-- On every device the staged block of the output projection is the device's argument. -/
theorem vO_eq (c : Dev nD) : vO m c = m ((c : Thread nD τ).loc main_arg7) := by
  funext i
  refine congrArg (m ((c : Thread nD τ).loc main_arg7)) (funext fun a => Fin.ext ?_)
  match a with
  | ⟨0, _⟩ => show 0 * _ + 1 * (i 0).val = (i 0).val; omega
  | ⟨1, _⟩ => show 0 * _ + 1 * (i 1).val = (i 1).val; omega

/-! ## Rectangles -/

/-- The own heads' columns of the queries' projection, as they are read, at an index. -/
theorem readQ_at (c : Dev nD) (v : FVec Ideal S2048x2048 .bf16) (k : Fin 2048) (r : Fin 1024) :
    aQ.view.readAt (Elt Ideal) (ldQ c) v (ix2 k r) = v (ix2 k ⟨1024 * (c.val / 16) + r.val, by have := dev_div c; omega⟩) := by
  refine congrArg v (funext fun a => Fin.ext ?_)
  have h := k0_off2_eq c
  match a with
  | ⟨0, _⟩ => show k0_off2 c 0 + 1 * k.val = _; rw [h]; simp
  | ⟨1, _⟩ => show k0_off2 c 1 + 1 * r.val = _; rw [h]; simp

/-- The own heads' columns of the rotary queries' projection, as they are read, at an index. -/
theorem readQr_at (c : Dev nD) (v : FVec Ideal S2048x512 .bf16) (k : Fin 2048) (r : Fin 256) :
    aQr.view.readAt (Elt Ideal) (ldQr c) v (ix2 k r) = v (ix2 k ⟨256 * (c.val / 16) + r.val, by have := dev_div c; omega⟩) := by
  refine congrArg v (funext fun a => Fin.ext ?_)
  have h := k0_off3_eq c
  match a with
  | ⟨0, _⟩ => show k0_off3 c 0 + 1 * k.val = _; rw [h]; simp
  | ⟨1, _⟩ => show k0_off3 c 1 + 1 * r.val = _; rw [h]; simp

/-- The own heads' columns of the keys' up-projection, as they are read, at an index. -/
theorem readUk_at (c : Dev nD) (v : FVec Ideal S128x2048 .bf16) (k : Fin 128) (r : Fin 1024) :
    bUk.view.readAt (Elt Ideal) (ldU c) v (ix2 k r) = v (ix2 k ⟨1024 * (c.val / 16) + r.val, by have := dev_div c; omega⟩) := by
  refine congrArg v (funext fun a => Fin.ext ?_)
  have h := k0_off4_eq c
  match a with
  | ⟨0, _⟩ => show k0_off4 c 0 + 1 * k.val = _; rw [h]; simp
  | ⟨1, _⟩ => show k0_off4 c 1 + 1 * r.val = _; rw [h]; simp

/-- The columns of the keys' up-projection that are sent to the peer, at an index. -/
theorem sentUk_at (d : Dev nD) (v : FVec Ideal S128x2048 .bf16) (k : Fin 128) (r : Fin 1024) :
    (wUk d).view.read (Elt Ideal) v (ix2 k r) = v (ix2 k ⟨1024 - 1024 * (d.val / 16) + r.val, by have := dev_div d; omega⟩) := by
  refine congrArg v (funext fun a => Fin.ext ?_)
  have h := k0_off1_eq d
  match a with
  | ⟨0, _⟩ => show k0_off1 d 0 + 1 * k.val = _; rw [h]; simp
  | ⟨1, _⟩ => show k0_off1 d 1 + 1 * r.val = _; rw [h]; simp

/-- The own heads' columns of the values' up-projection, as they are read, at an index. -/
theorem readUv_at (c : Dev nD) (v : FVec Ideal S128x2048 .bf16) (k : Fin 128) (r : Fin 1024) :
    bUv.view.readAt (Elt Ideal) (ldU c) v (ix2 k r) = v (ix2 k ⟨1024 * (c.val / 16) + r.val, by have := dev_div c; omega⟩) := by
  refine congrArg v (funext fun a => Fin.ext ?_)
  have h := k0_off4_eq c
  match a with
  | ⟨0, _⟩ => show k0_off4 c 0 + 1 * k.val = _; rw [h]; simp
  | ⟨1, _⟩ => show k0_off4 c 1 + 1 * r.val = _; rw [h]; simp

/-- The columns of the values' up-projection that are sent to the peer, at an index. -/
theorem sentUv_at (d : Dev nD) (v : FVec Ideal S128x2048 .bf16) (k : Fin 128) (r : Fin 1024) :
    (wUv d).view.read (Elt Ideal) v (ix2 k r) = v (ix2 k ⟨1024 - 1024 * (d.val / 16) + r.val, by have := dev_div d; omega⟩) := by
  refine congrArg v (funext fun a => Fin.ext ?_)
  have h := k0_off1_eq d
  match a with
  | ⟨0, _⟩ => show k0_off1 d 0 + 1 * k.val = _; rw [h]; simp
  | ⟨1, _⟩ => show k0_off1 d 1 + 1 * r.val = _; rw [h]; simp

/-- The keys of one head, as a trip of loop 1 reads them, at an index. -/
theorem readK1_at (t : Fin k0_t1_loop.trips) (v : FVec Ideal S1024x1024 .bf16) (u : Fin 1024) (d : Fin 128) :
    mK.view.readAt (Elt Ideal) (Rect.unit (s := S1024x1024) (k0_off5 t) S1024x128.size (k0_off5_inb t)).toLoadRect v (ix2 u d) = v (ix2 u ⟨128 * t.val + d.val, by have := t.isLt; have := trips1; omega⟩) := by
  refine congrArg v (funext fun a => Fin.ext ?_)
  have h := k0_off5_eq t
  match a with
  | ⟨0, _⟩ => show k0_off5 t 0 + 1 * u.val = _; rw [h]; simp
  | ⟨1, _⟩ => show k0_off5 t 1 + 1 * d.val = _; rw [h]; simp

/-- The transposed queries of one head, as a trip of loop 1 reads them, at an index. -/
theorem readH1_at (t : Fin k0_t1_loop.trips) (v : FVec Ideal S1024x1024 .bf16) (d : Fin 128) (s : Fin 512) :
    mQ.view.readAt (Elt Ideal) (Rect.unit (s := S1024x1024) (k0_off6 t) S128x512.size (k0_off6_inb t)).toLoadRect v (ix2 d s) = v (ix2 ⟨128 * t.val + d.val, by have := t.isLt; have := trips1; omega⟩ ⟨s.val, by omega⟩) := by
  refine congrArg v (funext fun a => Fin.ext ?_)
  have h := k0_off6_eq t
  match a with
  | ⟨0, _⟩ => show k0_off6 t 0 + 1 * d.val = _; rw [h]; simp
  | ⟨1, _⟩ => show k0_off6 t 1 + 1 * s.val = _; rw [h]; simp

/-- The transposed rotary queries of one head, as a trip of loop 1 reads them, at an index. -/
theorem readHr1_at (t : Fin k0_t1_loop.trips) (v : FVec Ideal S256x1024 .bf16) (d : Fin 32) (s : Fin 512) :
    mQr.view.readAt (Elt Ideal) (Rect.unit (s := S256x1024) (k0_off7 t) S32x512.size (k0_off7_inb t)).toLoadRect v (ix2 d s) = v (ix2 ⟨32 * t.val + d.val, by have := t.isLt; have := trips1; omega⟩ ⟨s.val, by omega⟩) := by
  refine congrArg v (funext fun a => Fin.ext ?_)
  have h := k0_off7_eq t
  match a with
  | ⟨0, _⟩ => show k0_off7 t 0 + 1 * d.val = _; rw [h]; simp
  | ⟨1, _⟩ => show k0_off7 t 1 + 1 * s.val = _; rw [h]; simp

/-- The transposed values of one head, as a trip of loop 1 reads them, at an index. -/
theorem readV1_at (t : Fin k0_t1_loop.trips) (v : FVec Ideal S1024x1024 .bf16) (d : Fin 128) (u : Fin 1024) :
    mV.view.readAt (Elt Ideal) (Rect.unit (s := S1024x1024) (k0_off8 t) S128x1024.size (k0_off8_inb t)).toLoadRect v (ix2 d u) = v (ix2 ⟨128 * t.val + d.val, by have := t.isLt; have := trips1; omega⟩ u) := by
  refine congrArg v (funext fun a => Fin.ext ?_)
  have h := k0_off8_eq t
  match a with
  | ⟨0, _⟩ => show k0_off8 t 0 + 1 * d.val = _; rw [h]; simp
  | ⟨1, _⟩ => show k0_off8 t 1 + 1 * u.val = _; rw [h]; simp

/-- The keys of one head, as a trip of loop 2 reads them, at an index. -/
theorem readK2_at (t : Fin k0_t2_loop.trips) (v : FVec Ideal S1024x1024 .bf16) (u : Fin 1024) (d : Fin 128) :
    mK.view.readAt (Elt Ideal) (Rect.unit (s := S1024x1024) (k0_off11 t) S1024x128.size (k0_off11_inb t)).toLoadRect v (ix2 u d) = v (ix2 u ⟨128 * t.val + d.val, by have := t.isLt; have := trips2; omega⟩) := by
  refine congrArg v (funext fun a => Fin.ext ?_)
  have h := k0_off11_eq t
  match a with
  | ⟨0, _⟩ => show k0_off11 t 0 + 1 * u.val = _; rw [h]; simp
  | ⟨1, _⟩ => show k0_off11 t 1 + 1 * d.val = _; rw [h]; simp

/-- The transposed queries of one head, as a trip of loop 2 reads them, at an index. -/
theorem readH2_at (t : Fin k0_t2_loop.trips) (v : FVec Ideal S1024x1024 .bf16) (d : Fin 128) (s : Fin 512) :
    mQ.view.readAt (Elt Ideal) (Rect.unit (s := S1024x1024) (k0_off12 t) S128x512.size (k0_off12_inb t)).toLoadRect v (ix2 d s) = v (ix2 ⟨128 * t.val + d.val, by have := t.isLt; have := trips2; omega⟩ ⟨512 + s.val, by omega⟩) := by
  refine congrArg v (funext fun a => Fin.ext ?_)
  have h := k0_off12_eq t
  match a with
  | ⟨0, _⟩ => show k0_off12 t 0 + 1 * d.val = _; rw [h]; simp
  | ⟨1, _⟩ => show k0_off12 t 1 + 1 * s.val = _; rw [h]; simp

/-- The transposed rotary queries of one head, as a trip of loop 2 reads them, at an index. -/
theorem readHr2_at (t : Fin k0_t2_loop.trips) (v : FVec Ideal S256x1024 .bf16) (d : Fin 32) (s : Fin 512) :
    mQr.view.readAt (Elt Ideal) (Rect.unit (s := S256x1024) (k0_off13 t) S32x512.size (k0_off13_inb t)).toLoadRect v (ix2 d s) = v (ix2 ⟨32 * t.val + d.val, by have := t.isLt; have := trips2; omega⟩ ⟨512 + s.val, by omega⟩) := by
  refine congrArg v (funext fun a => Fin.ext ?_)
  have h := k0_off13_eq t
  match a with
  | ⟨0, _⟩ => show k0_off13 t 0 + 1 * d.val = _; rw [h]; simp
  | ⟨1, _⟩ => show k0_off13 t 1 + 1 * s.val = _; rw [h]; simp

/-- The transposed values of one head, as a trip of loop 2 reads them, at an index. -/
theorem readV2_at (t : Fin k0_t2_loop.trips) (v : FVec Ideal S1024x1024 .bf16) (d : Fin 128) (u : Fin 1024) :
    mV.view.readAt (Elt Ideal) (Rect.unit (s := S1024x1024) (k0_off14 t) S128x1024.size (k0_off14_inb t)).toLoadRect v (ix2 d u) = v (ix2 ⟨128 * t.val + d.val, by have := t.isLt; have := trips2; omega⟩ u) := by
  refine congrArg v (funext fun a => Fin.ext ?_)
  have h := k0_off14_eq t
  match a with
  | ⟨0, _⟩ => show k0_off14 t 0 + 1 * d.val = _; rw [h]; simp
  | ⟨1, _⟩ => show k0_off14 t 1 + 1 * u.val = _; rw [h]; simp

/-- The heads' outputs at the first half of the rows, as they are read, at an index. -/
theorem readOa_at (v : FVec Ideal S2x2048x512 .bf16) (r : Fin 2048) (s : Fin 512) :
    mOut.view.readAt (Elt Ideal) r19a v (ix3 0 r s) = v (ix3 0 r s) := by
  refine congrArg v (funext fun a => Fin.ext ?_)
  match a with
  | ⟨0, _⟩ => rfl
  | ⟨1, _⟩ => show 0 + 1 * r.val = r.val; omega
  | ⟨2, _⟩ => show 0 + 1 * s.val = s.val; omega

/-- The heads' outputs at the second half of the rows, as they are read, at an index. -/
theorem readOb_at (v : FVec Ideal S2x2048x512 .bf16) (r : Fin 2048) (s : Fin 512) :
    mOut.view.readAt (Elt Ideal) r19b v (ix3 0 r s) = v (ix3 1 r s) := by
  refine congrArg v (funext fun a => Fin.ext ?_)
  match a with
  | ⟨0, _⟩ => rfl
  | ⟨1, _⟩ => show 0 + 1 * r.val = r.val; omega
  | ⟨2, _⟩ => show 0 + 1 * s.val = s.val; omega

end Cert.KProof.Ker
end
-- ==== Proof.RefValue.lean ====
/-
  What the reference computes, stage by stage over the extended reals, each stage read at an index.
-/
module

public import proofs.«01_k».proof.Proof.Gen.ReferenceIdeal.Run
public import Idealize.ShloMosaic.Lib.Pointwise

@[expose] public section

set_option maxRecDepth 16384

noncomputable section

namespace Cert.KProof.Ref

open Cert.ReferenceIdeal Cert.ReferenceIdeal.Gen
open Idealize.ShloMosaic

/-- The scale of the scores. -/
def σ : EReal := Ideal.ofBits .f32 0x3DA1E89B#32

/-- A bf16 array, widened. -/
def w {s : Shape} (x : FVec Ideal s .bf16) : FVec Ideal s .f32 := extf .f32 x bitsLt_bf16_f32

/-- The latent. -/
def lat (x : FVec Ideal S1x1024x2048 .bf16) (wd : FVec Ideal S2048x256 .bf16) : FVec Ideal S1x1024x256 .f32 :=
  Host.dotGeneral dot_S1x1024x2048_S2048x256_S1x1024x256_2_0_01_1_n_n none (w x) (w wd)

/-- The latent at a row and a column is the sum of products of the input with the down-projection. -/
theorem lat_at (x : FVec Ideal S1x1024x2048 .bf16) (wd : FVec Ideal S2048x256 .bf16) (s : Fin 1024) (j : Fin 256) :
    lat x wd (ix3 0 s j) = ∑ k : Fin 2048, x (ix3 0 s k) * wd (ix2 k j) := by
  pointwise [lat, w]

/-- Keys or values, by head. -/
def up (c : FVec Ideal S1x1024x256 .f32) (wu : FVec Ideal S256x2048 .bf16) : FVec Ideal S1x1024x16x128 .f32 :=
  shapeCast _ (Host.dotGeneral dot_S1x1024x256_S256x2048_S1x1024x2048_2_0_01_1_n_n none c (w wu)) shapeCasts_S1x1024x2048_S1x1024x16x128

/-- An up-projection of the latent at a row, a head and a place in the head. -/
theorem up_at (c : FVec Ideal S1x1024x256 .f32) (wu : FVec Ideal S256x2048 .bf16) (s : Fin 1024) (h : Fin 16) (d : Fin 128) :
    up c wu (ix4 0 s h d) = ∑ j : Fin 256, c (ix3 0 s j) * wu (ix2 j ⟨h.val * 128 + d.val, by omega⟩) := by
  pointwise [up, w]

/-- Queries, by head. -/
def qu (x : FVec Ideal S1x1024x2048 .bf16) (wq : FVec Ideal S2048x2048 .bf16) : FVec Ideal S1x1024x16x128 .f32 :=
  shapeCast _ (Host.dotGeneral dot_S1x1024x2048_S2048x2048_S1x1024x2048_2_0_01_1_n_n none (w x) (w wq)) shapeCasts_S1x1024x2048_S1x1024x16x128

/-- The queries at a row, a head and a place in the head. -/
theorem qu_at (x : FVec Ideal S1x1024x2048 .bf16) (wq : FVec Ideal S2048x2048 .bf16) (s : Fin 1024) (h : Fin 16) (d : Fin 128) :
    qu x wq (ix4 0 s h d) = ∑ k : Fin 2048, x (ix3 0 s k) * wq (ix2 k ⟨h.val * 128 + d.val, by omega⟩) := by
  pointwise [qu, w]

/-- The rotary queries, by head. -/
def qr (x : FVec Ideal S1x1024x2048 .bf16) (wq : FVec Ideal S2048x512 .bf16) : FVec Ideal S1x1024x16x32 .f32 :=
  shapeCast _ (Host.dotGeneral dot_S1x1024x2048_S2048x512_S1x1024x512_2_0_01_1_n_n none (w x) (w wq)) shapeCasts_S1x1024x512_S1x1024x16x32

/-- The rotary queries at a row, a head and a place in the head. -/
theorem qr_at (x : FVec Ideal S1x1024x2048 .bf16) (wq : FVec Ideal S2048x512 .bf16) (s : Fin 1024) (h : Fin 16) (d : Fin 32) :
    qr x wq (ix4 0 s h d) = ∑ k : Fin 2048, x (ix3 0 s k) * wq (ix2 k ⟨h.val * 32 + d.val, by omega⟩) := by
  pointwise [qr, w]

/-- The rotary key, the same for every head. -/
def rk (x : FVec Ideal S1x1024x2048 .bf16) (wk : FVec Ideal S2048x32 .bf16) : FVec Ideal S1x1024x16x32 .f32 :=
  broadcastInDim S1x1024x16x32 ![0, 1, 2, 3] bcast_S1x1024x1x32_S1x1024x16x32_0_1_2_3 (shapeCast _ (Host.dotGeneral dot_S1x1024x2048_S2048x32_S1x1024x32_2_0_01_1_n_n none (w x) (w wk)) shapeCasts_S1x1024x32_S1x1024x1x32)

/-- The rotary key at a row and a place is the same for every head. -/
theorem rk_at (x : FVec Ideal S1x1024x2048 .bf16) (wk : FVec Ideal S2048x32 .bf16) (s : Fin 1024) (h : Fin 16) (d : Fin 32) :
    rk x wk (ix4 0 s h d) = ∑ k : Fin 2048, x (ix3 0 s k) * wk (ix2 k d) := by
  pointwise [rk, w]

/-- The scores. -/
def sc (q k : FVec Ideal S1x1024x16x128 .f32) (q' k' : FVec Ideal S1x1024x16x32 .f32) : FVec Ideal S1x16x1024x1024 .f32 :=
  mulf (addf (Host.dotGeneral dot_S1x1024x16x128_S1x1024x16x128_S1x16x1024x1024_3_3_1_1_02_02 none q k) (Host.dotGeneral dot_S1x1024x16x32_S1x1024x16x32_S1x16x1024x1024_3_3_1_1_02_02 none q' k'))
    (broadcastInDim S1x16x1024x1024 ![] bcast_S_S1x16x1024x1024 (constant S_ .f32 0x3DA1E89B#32))

/-- The score of two rows in a head: both inner products added, then scaled. -/
theorem sc_at (q k : FVec Ideal S1x1024x16x128 .f32) (q' k' : FVec Ideal S1x1024x16x32 .f32) (h : Fin 16) (s t : Fin 1024) :
    sc q k q' k' (ix4 0 h s t) = ((∑ d : Fin 128, q (ix4 0 s h d) * k (ix4 0 t h d)) + ∑ d : Fin 32, q' (ix4 0 s h d) * k' (ix4 0 t h d)) * σ := by
  pointwise [sc, σ]

/-- The exponentials of the scores less their row's maximum. -/
def ex (S : FVec Ideal S1x16x1024x1024 .f32) : FVec Ideal S1x16x1024x1024 .f32 :=
  Host.exp (subf S (broadcastInDim S1x16x1024x1024 ![0, 1, 2, 3] bcast_S1x16x1024x1_S1x16x1024x1024_0_1_2_3 (broadcastInDim S1x16x1024x1 ![0, 1, 2] bcast_S1x16x1024_S1x16x1024x1_0_1_2 (Host.reduce FloatOps.maximumf S (constant S_ .f32 0xFF800000#32) reducesTo_S1x16x1024x1024_S1x16x1024_d3 h_S_))))

/-- The exponential of a score less the greatest of its row. -/
theorem ex_at (S : FVec Ideal S1x16x1024x1024 .f32) (h : Fin 16) (s t : Fin 1024) :
    ex S (ix4 0 h s t) = Ideal.exp (S (ix4 0 h s t) - Finset.univ.fold max (Ideal.ofBits .f32 0xFF800000#32) fun u : Fin 1024 => S (ix4 0 h s u)) := by
  pointwise [ex]

/-- The weights. -/
def pr (E : FVec Ideal S1x16x1024x1024 .f32) : FVec Ideal S1x16x1024x1024 .f32 :=
  Host.divf E (broadcastInDim S1x16x1024x1024 ![0, 1, 2, 3] bcast_S1x16x1024x1_S1x16x1024x1024_0_1_2_3 (broadcastInDim S1x16x1024x1 ![0, 1, 2] bcast_S1x16x1024_S1x16x1024x1_0_1_2 (Host.reduceAdd E (constant S_ .f32 0x00000000#32) reducesTo_S1x16x1024x1024_S1x16x1024_d3 h_S_)))

/-- A weight is its exponential over the sum of the row. -/
theorem pr_at (E : FVec Ideal S1x16x1024x1024 .f32) (h : Fin 16) (s t : Fin 1024) :
    pr E (ix4 0 h s t) = Ideal.div (E (ix4 0 h s t)) (0 + ∑ u : Fin 1024, E (ix4 0 h s u)) := by
  pointwise [pr, Ideal.ofBits_zero_f32]

/-- The heads' outputs, side by side. -/
def hd (v : FVec Ideal S1x1024x16x128 .f32) (p : FVec Ideal S1x16x1024x1024 .f32) : FVec Ideal S1x1024x2048 .f32 :=
  shapeCast _ (transpose S1x1024x16x128 [0, 3, 1, 2] (Host.dotGeneral dot_S1x1024x16x128_S1x16x1024x1024_S1x16x128x1024_1_3_3_2_02_01 none v p) transposes_S1x16x128x1024_S1x1024x16x128_0_3_1_2) shapeCasts_S1x1024x16x128_S1x1024x2048

/-- A head's output at a row: the values weighted. -/
theorem hd_at (v : FVec Ideal S1x1024x16x128 .f32) (p : FVec Ideal S1x16x1024x1024 .f32) (s : Fin 1024) (r : Fin 2048) :
    hd v p (ix3 0 s r) = ∑ t : Fin 1024, v (ix4 0 t ⟨r.val / 128, by omega⟩ ⟨r.val % 128, by omega⟩) * p (ix4 0 ⟨r.val / 128, by omega⟩ s t) := by
  pointwise [hd]

/-- The result. -/
def ou (o : FVec Ideal S1x1024x2048 .f32) (wo : FVec Ideal S2048x2048 .bf16) : FVec Ideal S1x1024x2048 .bf16 :=
  truncf .bf16 (Host.dotGeneral dot_S1x1024x2048_S2048x2048_S1x1024x2048_2_0_01_1_n_n none o (w wo)) bitsLt_bf16_f32

/-- The result at a row and a column: the heads' outputs times the output projection. -/
theorem ou_at (o : FVec Ideal S1x1024x2048 .f32) (wo : FVec Ideal S2048x2048 .bf16) (s : Fin 1024) (e : Fin 2048) :
    ou o wo (ix3 0 s e) = ∑ r : Fin 2048, o (ix3 0 s r) * wo (ix2 r e) := by
  pointwise [ou, w]

/-- The reference as its stages. -/
def val (x : FVec Ideal S1x1024x2048 .bf16) (wd : FVec Ideal S2048x256 .bf16) (wuk wuv : FVec Ideal S256x2048 .bf16)
    (wq : FVec Ideal S2048x2048 .bf16) (wqr : FVec Ideal S2048x512 .bf16) (wkr : FVec Ideal S2048x32 .bf16) (wo : FVec Ideal S2048x2048 .bf16) :
    FVec Ideal S1x1024x2048 .bf16 :=
  ou (hd (up (lat x wd) wuv) (pr (ex (sc (qu x wq) (up (lat x wd) wuk) (qr x wqr) (rk x wkr))))) wo

/-- The result of the printed reference is the last of the stages, at the device's arguments. -/
theorem res_eq (m : (ℓ : Loc nD τ sig) → Buf (Elt Ideal) ℓ) (c : Dev nD) :
    Value.res_main_v38 m c = val (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.KProof.Ref

end
-- ==== Proof.Softmax.lean ====
/-
  The softmax of real scores over extended reals: dividing after the sum over the exponentials as they are, and dividing
  before it over the exponentials of the scores less their maximum, give one value, whatever the weighted values are.
-/
module

public import Idealize.ShloMosaic.PureOps.Ideal

@[expose] public section
noncomputable section
namespace Cert.KProof
open Idealize.ShloMosaic

/-- An extended real that is a real number. -/
def Fin' (x : EReal) : Prop := ∃ r : ℝ, x = (r : EReal)

/-- A sum of two reals is a real. -/
theorem fin_add {x y : EReal} (hx : Fin' x) (hy : Fin' y) : Fin' (x + y) := by
  obtain ⟨a, rfl⟩ := hx; obtain ⟨b, rfl⟩ := hy; exact ⟨a + b, (EReal.coe_add a b).symm⟩
/-- A product of two reals is a real. -/
theorem fin_mul {x y : EReal} (hx : Fin' x) (hy : Fin' y) : Fin' (x * y) := by
  obtain ⟨a, rfl⟩ := hx; obtain ⟨b, rfl⟩ := hy; exact ⟨a * b, (EReal.coe_mul a b).symm⟩
/-- A finite sum of reals is a real. -/
theorem fin_sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact fin_add (h a) ih

/-- A nonnegative real factor goes through a sum of extended reals. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- The real sum, as an extended real. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of finitely many reals, folded from the least extended real, is a real. -/
theorem fold_max_fin {ι : Type} (s : Finset ι) (hs : s.Nonempty) (f : ι → EReal) (h : ∀ i, Fin' (f i)) : Fin' (s.fold max ⊥ f) := by
  classical
  induction hs using Finset.Nonempty.cons_induction with
  | singleton a => rw [Finset.fold_singleton, max_eq_left bot_le]; exact h a
  | cons a s ha hs ih =>
    rw [Finset.fold_cons]
    rcases max_choice (f a) (s.fold max ⊥ f) with e | e <;> rw [e]
    · exact h a
    · exact ih

/-- The two softmaxes agree. -/
theorem softmax_eq {n : ℕ} (hn : 0 < n) (S V : Fin n → EReal) (h : ∀ t, Fin' (S t)) :
    (∑ t, V t * Ideal.exp (S t)) * Ideal.div 1 (∑ t, Ideal.exp (S t))
      = ∑ t, V t * Ideal.div (Ideal.exp (S t - Finset.univ.fold max ⊥ S)) (0 + ∑ u, Ideal.exp (S u - Finset.univ.fold max ⊥ S)) := by
  haveI : Nonempty (Fin n) := ⟨⟨0, hn⟩⟩
  obtain ⟨M, hM⟩ := fold_max_fin Finset.univ Finset.univ_nonempty S h
  choose R hR using h
  rw [hM]
  have hS : S = fun t => (R t : EReal) := funext hR
  subst hS
  have hZ : 0 < ∑ t, Real.exp (R t) := Finset.sum_pos (fun t _ => Real.exp_pos _) Finset.univ_nonempty
  have hW : 0 < ∑ t, Real.exp (R t - M) := Finset.sum_pos (fun t _ => Real.exp_pos _) Finset.univ_nonempty
  have e1 : ∀ t, Ideal.exp (R t : EReal) = ((Real.exp (R t) : ℝ) : EReal) := fun t => Ideal.exp_coe ..
  have e2 : ∀ t, Ideal.exp ((R t : EReal) - (M : EReal)) = ((Real.exp (R t - M) : ℝ) : EReal) := fun t => by
    rw [← EReal.coe_sub]; exact Ideal.exp_coe ..
  simp only [e1, e2]
  rw [← coe_sum', ← coe_sum', zero_add, Ideal.div_coe hZ.ne', one_mul, sum_mul_coe _ _ _ (by positivity)]
  refine Finset.sum_congr rfl fun t _ => ?_
  rw [Ideal.div_coe hW.ne', mul_assoc, ← EReal.coe_mul, ← EReal.coe_mul]
  congr 2
  have : ∀ u, Real.exp (R u - M) = Real.exp (R u) * Real.exp (-M) := fun u => by rw [sub_eq_add_neg, Real.exp_add]
  simp only [this]
  rw [← Finset.sum_mul]
  have := Real.exp_pos (-M)
  field_simp

end Cert.KProof
end
-- ==== Proof.Consts.lean ====
/-
  The three float constants of the two programs as extended reals.
-/
module

public import Idealize.ShloMosaic.Lib.IdealHost
public import Idealize.ShloMosaic.Lib.Pointwise

@[expose] public section
noncomputable section
namespace Cert.KProof
open Idealize.ShloMosaic

/-- The scale is a nonnegative real. -/
theorem scale_real : ∃ r : ℝ, 0 ≤ r ∧ Ideal.ofBits .f32 0x3DA1E89B#32 = (r : EReal) := by
  simp only [Ideal.ofBits, Ideal.ieee]
  norm_num [-EReal.coe_mul]
  refine ⟨_, ?_, rfl⟩
  rw [if_neg (by decide)]
  positivity

/-- The maximum starts at the least extended real. -/
theorem ofBits_min : Ideal.ofBits .f32 0xFF800000#32 = ⊥ := by
  simp [Ideal.ofBits, Ideal.ieee]

/-- The bound of the finite arguments is the greatest extended real. -/
theorem ofBits_max : Ideal.ofBits .f32 0x7F800000#32 = ⊤ := by
  simp [Ideal.ofBits, Ideal.ieee]

end Cert.KProof
end
-- ==== Proof.Blocks.lean ====
/-
  What the buffers of one device hold, in terms of the reference's stages: keys, values, queries and rotary parts of the
  device's heads, under the agreement of the two programs' arguments.
-/
module

public import proofs.«01_k».proof.Proof.Held
public import proofs.«01_k».proof.Proof.RefValue
public import proofs.«01_k».proof.Proof.Softmax
public import proofs.«01_k».proof.Proof.Consts

@[expose] public section

set_option maxRecDepth 16384

noncomputable section

namespace Cert.KProof.Ker

open Cert.KernelIdeal Cert.KernelIdeal.Gen Cert.KProof
open Idealize.ShloMosaic Idealize.ShloMosaic.TcCoe

variable (m : (ℓ : Loc nD τ sig) → Buf (Elt Ideal) ℓ)
variable (x : FVec Ideal Cert.ReferenceIdeal.S1x1024x2048 .bf16) (wd : FVec Ideal Cert.ReferenceIdeal.S2048x256 .bf16) (wuk wuv : FVec Ideal Cert.ReferenceIdeal.S256x2048 .bf16)
    (wq : FVec Ideal Cert.ReferenceIdeal.S2048x2048 .bf16) (wqr : FVec Ideal Cert.ReferenceIdeal.S2048x512 .bf16) (wkr : FVec Ideal Cert.ReferenceIdeal.S2048x32 .bf16) (wo : FVec Ideal Cert.ReferenceIdeal.S2048x2048 .bf16)

/-- Row `j` of the half of the latent that device `c` holds. -/
def lrow (c : Dev nD) (j : Fin 128) : Fin 256 := ⟨128 * (c.val / 16) + j.val, by have := dev_div c; omega⟩
/-- The head `t` of device `c`, among all heads. -/
def head (c : Dev nD) (t : Fin 8) : Fin 16 := ⟨8 * (c.val / 16) + t.val, by have := dev_div c; omega⟩

/-- Every device's arguments are its parts of the whole arrays, and six of these hold reals. -/
structure Agree : Prop where
  ax : ∀ c s k, vX m c (ix3 0 s k) = x (ix3 0 s k)
  ad : ∀ c k j, vDkv m c (ix2 k j) = wd (ix2 k (lrow c j))
  auk : ∀ c j e, vUk m c (ix2 j e) = wuk (ix2 (lrow c j) e)
  auv : ∀ c j e, vUv m c (ix2 j e) = wuv (ix2 (lrow c j) e)
  aq : ∀ c k e, vQ m c (ix2 k e) = wq (ix2 k e)
  aqr : ∀ c k e, vQr m c (ix2 k e) = wqr (ix2 k e)
  akr : ∀ c k e, vKr m c (ix2 k e) = wkr (ix2 k e)
  ao : ∀ c k e, vO m c (ix2 k e) = wo (ix2 k e)
  fx : ∀ s k, Fin' (x (ix3 0 s k))
  fd : ∀ k j, Fin' (wd (ix2 k j))
  fuk : ∀ j e, Fin' (wuk (ix2 j e))
  fq : ∀ k e, Fin' (wq (ix2 k e))
  fqr : ∀ k e, Fin' (wqr (ix2 k e))
  fkr : ∀ k e, Fin' (wkr (ix2 k e))

/-- A sum over the latent is the sum over the device's own half and the peer's. -/
theorem sum_halves (c : Dev nD) (f : Fin 256 → EReal) : ∑ j, f j = (∑ j : Fin 128, f (lrow c j)) + ∑ j : Fin 128, f (lrow (peer c) j) := by
  have e : ∑ j, f j = (∑ j : Fin 128, f ⟨j.val, by omega⟩) + ∑ j : Fin 128, f ⟨128 + j.val, by omega⟩ := Fin.sum_univ_add (a := 128) (b := 128) f
  have hp := peer_div c
  have hc := dev_div c
  rw [e]
  rcases Nat.le_one_iff_eq_zero_or_eq_one.1 hc with h | h
  · refine congrArg₂ (· + ·) (Finset.sum_congr rfl fun j _ => congrArg f (Fin.ext ?_)) (Finset.sum_congr rfl fun j _ => congrArg f (Fin.ext ?_))
    · show j.val = 128 * (c.val / 16) + j.val; omega
    · show 128 + j.val = 128 * ((peer c).val / 16) + j.val; omega
  · rw [add_comm]
    refine congrArg₂ (· + ·) (Finset.sum_congr rfl fun j _ => congrArg f (Fin.ext ?_)) (Finset.sum_congr rfl fun j _ => congrArg f (Fin.ext ?_))
    · show 128 + j.val = 128 * (c.val / 16) + j.val; omega
    · show j.val = 128 * ((peer c).val / 16) + j.val; omega

variable {m x wd wuk wuv wq wqr wkr wo} (A : Agree m x wd wuk wuv wq wqr wkr wo)
include A

/-- Device `d`'s half of the latent. -/
theorem lat_own (d c : Dev nD) (s : Fin 1024) (j : Fin 128) : ∑ k : Fin 2048, vDkv m d (ix2 k j) * vX m c (ix3 0 s k) = Ref.lat x wd (ix3 0 s (lrow d j)) := by
  rw [Ref.lat_at]
  exact Finset.sum_congr rfl fun k _ => by rw [A.ax, A.ad, mul_comm]

/-- The keys of the device's heads. -/
theorem kk_eq (c : Dev nD) (s : Fin 1024) (t : Fin 8) (d : Fin 128) :
    kk m c (ix2 s ⟨128 * t.val + d.val, by omega⟩) = Ref.up (Ref.lat x wd) wuk (ix4 0 s (head c t) d) := by
  have hp := peer_div c
  have hc := dev_div c
  rw [Ref.up_at, sum_halves c]
  unfold kk
  rw [pay13_at]
  refine congrArg₂ (· + ·) (Finset.sum_congr rfl fun j _ => ?_) (Finset.sum_congr rfl fun j _ => ?_)
  · rw [readUk_at]; unfold c0 sUk sDkv
    rw [pay10_at, pay3_at, A.auk]
    simp only [pay2_at]
    rw [lat_own A]
    refine congrArg (fun e => _ * wuk (ix2 _ e)) (Fin.ext ?_)
    show 1024 * (c.val / 16) + (128 * t.val + d.val) = (8 * (c.val / 16) + t.val) * 128 + d.val
    omega
  · unfold rUk; rw [sentUk_at]; unfold c1 sUk sDkv
    rw [pay12_at, pay3_at, A.auk]
    simp only [pay2_at]
    rw [lat_own A]
    refine congrArg (fun e => _ * wuk (ix2 _ e)) (Fin.ext ?_)
    show 1024 - 1024 * ((peer c).val / 16) + (128 * t.val + d.val) = (8 * (c.val / 16) + t.val) * 128 + d.val
    omega

/-- The values of the device's heads, transposed. -/
theorem vv_eq (c : Dev nD) (s : Fin 1024) (t : Fin 8) (d : Fin 128) :
    vv m c (ix2 ⟨128 * t.val + d.val, by omega⟩ s) = Ref.up (Ref.lat x wd) wuv (ix4 0 s (head c t) d) := by
  have hp := peer_div c
  have hc := dev_div c
  rw [Ref.up_at, sum_halves c]
  unfold vv
  rw [pay14_at]
  refine congrArg₂ (· + ·) (Finset.sum_congr rfl fun j _ => ?_) (Finset.sum_congr rfl fun j _ => ?_)
  · rw [readUv_at]; unfold c0T sUv sDkv
    rw [pay9_at, pay4_at, A.auv, mul_comm]
    simp only [pay2_at]
    rw [lat_own A]
    refine congrArg (fun e => _ * wuv (ix2 _ e)) (Fin.ext ?_)
    show 1024 * (c.val / 16) + (128 * t.val + d.val) = (8 * (c.val / 16) + t.val) * 128 + d.val
    omega
  · unfold rUv; rw [sentUv_at]; unfold c1T sUv sDkv
    rw [pay11_at, pay4_at, A.auv, mul_comm]
    simp only [pay2_at]
    rw [lat_own A]
    refine congrArg (fun e => _ * wuv (ix2 _ e)) (Fin.ext ?_)
    show 1024 - 1024 * ((peer c).val / 16) + (128 * t.val + d.val) = (8 * (c.val / 16) + t.val) * 128 + d.val
    omega

/-- The queries of the device's heads, transposed and scaled. -/
theorem qT_eq (c : Dev nD) (s : Fin 1024) (t : Fin 8) (d : Fin 128) :
    qT m c (ix2 ⟨128 * t.val + d.val, by omega⟩ s) = Ref.qu x wq (ix4 0 s (head c t) d) * Ref.σ := by
  unfold qT
  rw [pay6_at, Ref.qu_at]
  refine congrArg (· * Ref.σ) (Finset.sum_congr rfl fun k _ => ?_)
  rw [readQ_at, A.aq, A.ax, mul_comm]
  refine congrArg (fun e => _ * wq (ix2 _ e)) (Fin.ext ?_)
  show 1024 * (c.val / 16) + (128 * t.val + d.val) = (8 * (c.val / 16) + t.val) * 128 + d.val
  omega

/-- Their rotary parts. -/
theorem qrT_eq (c : Dev nD) (s : Fin 1024) (t : Fin 8) (d : Fin 32) :
    qrT m c (ix2 ⟨32 * t.val + d.val, by omega⟩ s) = Ref.qr x wqr (ix4 0 s (head c t) d) * Ref.σ := by
  unfold qrT
  rw [pay7_at, Ref.qr_at]
  refine congrArg (· * Ref.σ) (Finset.sum_congr rfl fun k _ => ?_)
  rw [readQr_at, A.aqr, A.ax, mul_comm]
  refine congrArg (fun e => _ * wqr (ix2 _ e)) (Fin.ext ?_)
  show 256 * (c.val / 16) + (32 * t.val + d.val) = (8 * (c.val / 16) + t.val) * 32 + d.val
  omega

/-- The rotary key. -/
theorem kr_eq (c : Dev nD) (s : Fin 1024) (h : Fin 16) (d : Fin 32) : kr m c (ix2 s d) = Ref.rk x wkr (ix4 0 s h d) := by
  unfold kr
  rw [pay8_at, Ref.rk_at]
  exact Finset.sum_congr rfl fun k _ => by rw [A.akr, A.ax, mul_comm]

end Cert.KProof.Ker
end
-- ==== Proof.Equation.lean ====
/-
  The equation: the kernel's result on every device is the reference's result.
-/
module

public import proofs.«01_k».proof.Proof.Blocks

@[expose] public section

set_option maxRecDepth 16384

noncomputable section

namespace Cert.KProof.Ker

open Cert.KernelIdeal Cert.KernelIdeal.Gen Cert.KProof
open Idealize.ShloMosaic Idealize.ShloMosaic.TcCoe

variable {m : (ℓ : Loc nD τ sig) → Buf (Elt Ideal) ℓ}
variable {x : FVec Ideal Cert.ReferenceIdeal.S1x1024x2048 .bf16} {wd : FVec Ideal Cert.ReferenceIdeal.S2048x256 .bf16} {wuk wuv : FVec Ideal Cert.ReferenceIdeal.S256x2048 .bf16}
    {wq : FVec Ideal Cert.ReferenceIdeal.S2048x2048 .bf16} {wqr : FVec Ideal Cert.ReferenceIdeal.S2048x512 .bf16} {wkr : FVec Ideal Cert.ReferenceIdeal.S2048x32 .bf16} {wo : FVec Ideal Cert.ReferenceIdeal.S2048x2048 .bf16}

/-- The reference's scores. -/
abbrev scores (x : FVec Ideal Cert.ReferenceIdeal.S1x1024x2048 .bf16) (wd : FVec Ideal Cert.ReferenceIdeal.S2048x256 .bf16) (wuk : FVec Ideal Cert.ReferenceIdeal.S256x2048 .bf16)
    (wq : FVec Ideal Cert.ReferenceIdeal.S2048x2048 .bf16) (wqr : FVec Ideal Cert.ReferenceIdeal.S2048x512 .bf16) (wkr : FVec Ideal Cert.ReferenceIdeal.S2048x32 .bf16) :=
  Ref.sc (Ref.qu x wq) (Ref.up (Ref.lat x wd) wuk) (Ref.qr x wqr) (Ref.rk x wkr)

/-- The reference's heads, side by side. -/
abbrev heads (x : FVec Ideal Cert.ReferenceIdeal.S1x1024x2048 .bf16) (wd : FVec Ideal Cert.ReferenceIdeal.S2048x256 .bf16) (wuk wuv : FVec Ideal Cert.ReferenceIdeal.S256x2048 .bf16)
    (wq : FVec Ideal Cert.ReferenceIdeal.S2048x2048 .bf16) (wqr : FVec Ideal Cert.ReferenceIdeal.S2048x512 .bf16) (wkr : FVec Ideal Cert.ReferenceIdeal.S2048x32 .bf16) :=
  Ref.hd (Ref.up (Ref.lat x wd) wuv) (Ref.pr (Ref.ex (scores x wd wuk wq wqr wkr)))

/-- A score as the head loops compute it, the scale inside the queries, is the reference's, the scale outside. -/
theorem scr_gen (k : FVec Ideal S1024x128 .bf16) (q : FVec Ideal S128x512 .bf16) (k' : FVec Ideal S1024x32 .bf16) (q' : FVec Ideal S32x512 .bf16)
    (h : Fin 16) (s u : Fin 1024) (s' : Fin 512)
    (hk : ∀ d, k (ix2 u d) = Ref.up (Ref.lat x wd) wuk (ix4 0 u h d)) (hq : ∀ d, q (ix2 d s') = Ref.qu x wq (ix4 0 s h d) * Ref.σ)
    (hk' : ∀ d, k' (ix2 u d) = Ref.rk x wkr (ix4 0 u h d)) (hq' : ∀ d, q' (ix2 d s') = Ref.qr x wqr (ix4 0 s h d) * Ref.σ) :
    scr k q k' q' u s' = scores x wd wuk wq wqr wkr (ix4 0 h s u) := by
  obtain ⟨r, hr, e⟩ := scale_real
  have e' : Ref.σ = (r : EReal) := e
  unfold scores
  rw [Ref.sc_at]
  unfold scr
  rw [e', EReal.right_distrib_of_nonneg_of_ne_top (EReal.coe_nonneg.2 hr) (EReal.coe_ne_top r), sum_mul_coe _ _ _ hr, sum_mul_coe _ _ _ hr]
  refine congrArg₂ (· + ·) (Finset.sum_congr rfl fun d _ => ?_) (Finset.sum_congr rfl fun d _ => ?_)
  · rw [hk, hq, e', ← mul_assoc, mul_comm (Ref.up _ _ _)]
  · rw [hk', hq', e', ← mul_assoc, mul_comm (Ref.rk _ _ _)]

variable (A : Agree m x wd wuk wuv wq wqr wkr wo)
include A

/-- The scores are reals. -/
theorem scores_fin (h : Fin 16) (s t : Fin 1024) : Fin' (scores x wd wuk wq wqr wkr (ix4 0 h s t)) := by
  obtain ⟨r, hr, e⟩ := scale_real
  unfold scores
  rw [Ref.sc_at]
  refine fin_mul (fin_add (fin_sum _ _ fun d => fin_mul ?_ ?_) (fin_sum _ _ fun d => fin_mul ?_ ?_)) ⟨r, e⟩
  · rw [Ref.qu_at]; exact fin_sum _ _ fun k => fin_mul (A.fx _ _) (A.fq _ _)
  · rw [Ref.up_at]
    refine fin_sum _ _ fun j => fin_mul ?_ (A.fuk _ _)
    rw [Ref.lat_at]; exact fin_sum _ _ fun k => fin_mul (A.fx _ _) (A.fd _ _)
  · rw [Ref.qr_at]; exact fin_sum _ _ fun k => fin_mul (A.fx _ _) (A.fqr _ _)
  · rw [Ref.rk_at]; exact fin_sum _ _ fun k => fin_mul (A.fx _ _) (A.fkr _ _)

/-- The weighted values of one head at one position, in the kernel's and in the reference's order of operations. -/
theorem head_gen (v : FVec Ideal S128x1024 .bf16) (S : Fin 1024 → EReal) (c : Dev nD) (t : Fin 8) (d : Fin 128) (s : Fin 1024)
    (hv : ∀ u, v (ix2 d u) = Ref.up (Ref.lat x wd) wuv (ix4 0 u (head c t) d)) (hS : ∀ u, S u = scores x wd wuk wq wqr wkr (ix4 0 (head c t) s u)) (r : Fin 2048)
    (hr : r.val = 1024 * (c.val / 16) + 128 * t.val + d.val) :
    (∑ u : Fin 1024, v (ix2 d u) * Ideal.exp (S u)) * Ideal.div 1 (∑ u : Fin 1024, Ideal.exp (S u)) = heads x wd wuk wuv wq wqr wkr (ix3 0 s r) := by
  unfold heads
  rw [softmax_eq (by decide) S (fun u => v (ix2 d u)) (fun u => by rw [hS]; exact scores_fin A _ _ _), Ref.hd_at]
  refine Finset.sum_congr rfl fun u _ => ?_
  have e1 : (⟨r.val / 128, by omega⟩ : Fin 16) = head c t := Fin.ext (by show r.val / 128 = 8 * (c.val / 16) + t.val; omega)
  have e2 : (⟨r.val % 128, by omega⟩ : Fin 128) = d := Fin.ext (by show r.val % 128 = d.val; omega)
  have e3 : S = fun u => scores x wd wuk wq wqr wkr (ix4 0 (head c t) s u) := funext hS
  rw [e1, e2, hv, Ref.pr_at]
  simp only [Ref.ex_at, ofBits_min]
  rw [e3]

/-- What the first loop stores for a head is the reference's head at the first 512 positions. -/
theorem oh0_eq (c : Dev nD) (t : Fin k0_t1_loop.trips) (d : Fin 128) (s : Fin 512) (r : Fin 2048) (hr : r.val = 1024 * (c.val / 16) + 128 * t.val + d.val) :
    oh0 m c t (ix3 0 d s) = heads x wd wuk wuv wq wqr wkr (ix3 0 ⟨s.val, by omega⟩ r) := by
  have ht : t.val < 8 := by have := t.isLt; have := trips1; omega
  unfold oh0
  rw [pay15_at]
  refine head_gen A _ _ c ⟨t.val, ht⟩ d ⟨s.val, by omega⟩ (fun u => ?_) (fun u => ?_) r hr
  · rw [readV1_at]; exact vv_eq A c u ⟨t.val, ht⟩ d
  · refine scr_gen _ _ _ _ _ _ _ _ (fun e => ?_) (fun e => ?_) (fun e => ?_) (fun e => ?_)
    · rw [readK1_at]; exact kk_eq A c u ⟨t.val, ht⟩ e
    · rw [readH1_at]; exact qT_eq A c _ ⟨t.val, ht⟩ e
    · exact kr_eq A c u _ e
    · rw [readHr1_at]; exact qrT_eq A c _ ⟨t.val, ht⟩ e

/-- What the second loop stores for a head is the reference's head at the last 512 positions. -/
theorem oh1_eq (c : Dev nD) (t : Fin k0_t2_loop.trips) (d : Fin 128) (s : Fin 512) (r : Fin 2048) (hr : r.val = 1024 * (c.val / 16) + 128 * t.val + d.val) :
    oh1 m c t (ix3 0 d s) = heads x wd wuk wuv wq wqr wkr (ix3 0 ⟨512 + s.val, by omega⟩ r) := by
  have ht : t.val < 8 := by have := t.isLt; have := trips2; omega
  unfold oh1
  rw [pay16_at]
  refine head_gen A _ _ c ⟨t.val, ht⟩ d ⟨512 + s.val, by omega⟩ (fun u => ?_) (fun u => ?_) r hr
  · rw [readV2_at]; exact vv_eq A c u ⟨t.val, ht⟩ d
  · refine scr_gen _ _ _ _ _ _ _ _ (fun e => ?_) (fun e => ?_) (fun e => ?_) (fun e => ?_)
    · rw [readK2_at]; exact kk_eq A c u ⟨t.val, ht⟩ e
    · rw [readH2_at]; exact qT_eq A c _ ⟨t.val, ht⟩ e
    · exact kr_eq A c u _ e
    · rw [readHr2_at]; exact qrT_eq A c _ ⟨t.val, ht⟩ e

omit A in
/-- The first mesh coordinate of the device of the pair that computes half `a` of the heads. -/
theorem half_div (c : Dev nD) (a : ℕ) (ha : a ≤ 1) : (half c a).val / 16 = a := by
  have := peer_div c
  have := dev_div c
  unfold half
  split
  · omega
  · omega

omit A in
/-- The head-output index of a row and a column, spelled out. -/
theorem ixH_eq (r s : ℕ) (hs : s < 512) : ixH r s = ix3 0 ⟨r % 128, Nat.mod_lt _ (by decide)⟩ ⟨s, hs⟩ := by
  funext a
  match a with
  | ⟨0, _⟩ => rfl
  | ⟨1, _⟩ => rfl
  | ⟨2, _⟩ => exact Fin.ext (Nat.mod_eq_of_lt hs)

/-- All head outputs at the first 512 positions. -/
theorem oAll0_eq (c : Dev nD) (r : Fin 2048) (s : Fin 512) : oAll m c (ix3 0 r s) = heads x wd wuk wuv wq wqr wkr (ix3 0 ⟨s.val, by omega⟩ r) := by
  have h := half_div c (r.val / 1024) (by omega)
  show oh0 m (half c (r.val / 1024)) ⟨r.val % 1024 / 128, _⟩ (ixH r.val s.val) = _
  rw [ixH_eq _ _ s.isLt]
  refine oh0_eq A _ _ _ _ r ?_
  show r.val = 1024 * ((half c (r.val / 1024)).val / 16) + 128 * (r.val % 1024 / 128) + r.val % 128
  rw [h]; omega

/-- All head outputs at the last 512 positions. -/
theorem oAll1_eq (c : Dev nD) (r : Fin 2048) (s : Fin 512) : oAll m c (ix3 1 r s) = heads x wd wuk wuv wq wqr wkr (ix3 0 ⟨512 + s.val, by omega⟩ r) := by
  have h := half_div c (r.val / 1024) (by omega)
  show oh1 m (half c (r.val / 1024)) ⟨r.val % 1024 / 128, _⟩ (ixH r.val s.val) = _
  rw [ixH_eq _ _ s.isLt]
  refine oh1_eq A _ _ _ _ r ?_
  show r.val = 1024 * ((half c (r.val / 1024)).val / 16) + 128 * (r.val % 1024 / 128) + r.val % 128
  rw [h]; omega

omit A in
/-- The result index of a row and a column, spelled out. -/
theorem ixO_eq (s e : ℕ) (he : e < 2048) : ixO s e = ix3 0 ⟨s % 512, Nat.mod_lt _ (by decide)⟩ ⟨e, he⟩ := by
  funext a
  match a with
  | ⟨0, _⟩ => rfl
  | ⟨1, _⟩ => rfl
  | ⟨2, _⟩ => exact Fin.ext (Nat.mod_eq_of_lt he)

/-- The kernel's result on a device is the reference's. -/
theorem outAt_at (c : Dev nD) (s : Fin 1024) (e : Fin 2048) : outAt m c (ix3 0 s e) = Ref.val x wd wuk wuv wq wqr wkr wo (ix3 0 s e) := by
  unfold Ref.val
  rw [Ref.ou_at]
  show (if s.val < 512 then outA m c (ixO s.val e.val) else outB m c (ixO s.val e.val)) = _
  rw [ixO_eq _ _ e.isLt]
  by_cases h : s.val < 512
  · rw [if_pos h]
    unfold outA
    rw [pay17_at]
    refine Finset.sum_congr rfl fun r _ => ?_
    rw [readOa_at, oAll0_eq A, A.ao]
    refine congrArg (fun s => heads x wd wuk wuv wq wqr wkr (ix3 0 s r) * wo (ix2 r e)) (Fin.ext ?_)
    show s.val % 512 = s.val; omega
  · rw [if_neg h]
    unfold outB
    rw [pay1_at]
    refine Finset.sum_congr rfl fun r _ => ?_
    rw [readOb_at, oAll1_eq A, A.ao]
    refine congrArg (fun s => heads x wd wuk wuv wq wqr wkr (ix3 0 s r) * wo (ix2 r e)) (Fin.ext ?_)
    show 512 + s.val % 512 = s.val; omega

/-- On every device the kernel's result block is the reference's result. -/
theorem outAt_eq (c : Dev nD) : outAt m c = Ref.val x wd wuk wuv wq wqr wkr wo := by
  funext i
  have hi : i = ix3 0 (i 1) (i 2) := by
    funext a
    match a with
    | ⟨0, _⟩ => exact Fin.ext (by have : (i 0).val < 1 := (i 0).isLt; show (i 0).val = 0; omega)
    | ⟨1, _⟩ => rfl
    | ⟨2, _⟩ => rfl
  rw [hi]
  exact outAt_at A c (i 1) (i 2)

end Cert.KProof.Ker
end
-- ==== Proof.Finite.lean ====
/-
  What the precondition says of the arguments of every device: six of them hold reals only.
-/
module

public import proofs.«01_k».proof.Defs
public import proofs.«01_k».proof.Proof.Softmax
public import proofs.«01_k».proof.Proof.Consts
public import Idealize.ShloMosaic.Lib.Pointwise

@[expose] public section
set_option maxRecDepth 16384
noncomputable section
namespace Cert.KProof
open Idealize.ShloMosaic

/-- The side conditions of the precondition's two printed forms. -/
theorem preK : Cert.Pre_finite_KernelIdeal.Facts := by
  constructor <;> decide
/-- The printed precondition on the reference's arguments has its side conditions. -/
theorem preR : Cert.Pre_finite_ReferenceIdeal.Facts := by
  constructor <;> decide

/-- An extended real whose absolute value is below the greatest one is a real. -/
theorem fin_of_abs {x : EReal} (h : max x (-x) < ⊤) : Fin' x := by
  induction x with
  | bot => simp at h
  | top => simp at h
  | coe r => exact ⟨r, rfl⟩

/-- A comparison that holds at every position says that every entry is a real. -/
theorem fin_of_cmp {s : Shape} (x : FVec Ideal s .bf16) (hb : FTy.bits .bf16 < FTy.bits .f32) (hs : (⟨0, ![]⟩ : Shape).BroadcastsInDim s (![] : Fin 0 → Fin s.rank))
    (h : cmpf .olt (Host.absf (extf .f32 x hb)) (broadcastInDim s ![] hs (constant (F := Ideal) ⟨0, ![]⟩ .f32 0x7F800000#32)) = fun _ => 1#1) (i : s.Idx) : Fin' (x i) := by
  have e := congrFun h i
  have e' : Ideal.cmp .olt (max (x i) (-(x i))) (Ideal.ofBits .f32 0x7F800000#32) = 1#1 := e
  rw [ofBits_max] at e'
  apply fin_of_abs
  by_contra hn
  simp [Ideal.cmp, hn] at e'

end Cert.KProof
end
-- ==== Proof.Algebraic.lean ====
/-
  The value claim: from arguments that agree, every device of the kernel ends holding the reference's result.
-/
module

public import proofs.«01_k».proof.Proof.Equation
public import proofs.«01_k».proof.Proof.Finite
public import proofs.«01_k».proof.Proof.Launch
public import Idealize.ShloMosaic.Lib.LayoutAt

@[expose] public section

set_option maxRecDepth 16384

noncomputable section

namespace Cert.KProof

open Idealize.ShloMosaic Idealize.ShloMosaic.TcCoe Idealize.SL.Sem
open Cert.KernelIdeal (nD τ sig)

/-- The array of the result window ends at the kernel's result. -/
theorem arr_out (m : (ℓ : Loc nD τ sig) → Buf (Elt Ideal) ℓ) (c : Dev nD) :
    (dats m 0 c).arrAt (8 : Fin 9) Cert.KernelIdeal.cfg0.N = outAt m c := by
  refine (dats m 0 c).arrAt_eq_of_after_last 8 Cert.KernelIdeal.Gen.t0_0 (by decide +kernel) _ fun j => ?_
  rfl

/-- The block of the mesh that a device holds along the first mesh axis. -/
theorem lin_eq : ∀ c : Dev nD, Layout.meshLin [2, 4, 4] c.val [0] = c.val / 16 := by decide

/-- A device's columns of an array of 256 columns. -/
theorem cols_at (c : Dev nD) (v : (⟨2, ![2048, 256]⟩ : Shape).Idx → EReal) (k : Fin 2048) (j : Fin 128) :
    Layout.blockN ⟨2, ![2048, 128]⟩ ⟨2, ![2048, 256]⟩ (Layout.meshBlock [2, 4, 4] ![[], [0]] c) v (by decide) (ix2 k j) = v (ix2 k (Ker.lrow c j)) := by
  refine congrArg v (funext fun a => Fin.ext ?_)
  match a with
  | ⟨0, _⟩ => show 0 * 2048 + k.val = k.val; omega
  | ⟨1, _⟩ => show Layout.meshLin [2, 4, 4] c.val [0] * 128 + j.val = 128 * (c.val / 16) + j.val; rw [lin_eq]; omega

/-- A device's rows of an array of 256 rows. -/
theorem rows_at (c : Dev nD) (v : (⟨2, ![256, 2048]⟩ : Shape).Idx → EReal) (j : Fin 128) (e : Fin 2048) :
    Layout.blockN ⟨2, ![128, 2048]⟩ ⟨2, ![256, 2048]⟩ (Layout.meshBlock [2, 4, 4] ![[0], []] c) v (by decide) (ix2 j e) = v (ix2 (Ker.lrow c j) e) := by
  refine congrArg v (funext fun a => Fin.ext ?_)
  match a with
  | ⟨0, _⟩ => show Layout.meshLin [2, 4, 4] c.val [0] * 128 + j.val = 128 * (c.val / 16) + j.val; rw [lin_eq]; omega
  | ⟨1, _⟩ => show 0 * 2048 + e.val = e.val; omega

/-- Every row of the latent is held by some device. -/
theorem lrow_surj (j : Fin 256) : ∃ (c : Dev nD) (i : Fin 128), Ker.lrow c i = j :=
  ⟨⟨16 * (j.val / 128), by show _ < 32; omega⟩, ⟨j.val % 128, by omega⟩, Fin.ext (by show 128 * (16 * (j.val / 128) / 16) + j.val % 128 = j.val; omega)⟩

/-- The arguments agree in the sense of the equation. -/
theorem agree (m : (ℓ : Loc nD τ sig) → Buf (Elt Ideal) ℓ)
    (x : FVec Ideal Cert.ReferenceIdeal.S1x1024x2048 .bf16) (wd : FVec Ideal Cert.ReferenceIdeal.S2048x256 .bf16) (wuk wuv : FVec Ideal Cert.ReferenceIdeal.S256x2048 .bf16)
    (wq : FVec Ideal Cert.ReferenceIdeal.S2048x2048 .bf16) (wqr : FVec Ideal Cert.ReferenceIdeal.S2048x512 .bf16) (wkr : FVec Ideal Cert.ReferenceIdeal.S2048x32 .bf16) (wo : FVec Ideal Cert.ReferenceIdeal.S2048x2048 .bf16)
    (hpre : Cert.Pre_KernelIdeal_finite_KernelIdeal (hPre_finite_KernelIdeal := preK) m)
    (h0 : ∀ c : Dev nD, m ((c : Thread nD τ).loc Cert.KernelIdeal.main_arg0) = x)
    (h1 : ∀ c : Dev nD, m ((c : Thread nD τ).loc Cert.KernelIdeal.main_arg1) = Layout.blockN ⟨2, ![2048, 128]⟩ ⟨2, ![2048, 256]⟩ (Layout.meshBlock [2, 4, 4] ![[], [0]] c) wd)
    (h2 : ∀ c : Dev nD, m ((c : Thread nD τ).loc Cert.KernelIdeal.main_arg2) = Layout.blockN ⟨2, ![128, 2048]⟩ ⟨2, ![256, 2048]⟩ (Layout.meshBlock [2, 4, 4] ![[0], []] c) wuk)
    (h3 : ∀ c : Dev nD, m ((c : Thread nD τ).loc Cert.KernelIdeal.main_arg3) = Layout.blockN ⟨2, ![128, 2048]⟩ ⟨2, ![256, 2048]⟩ (Layout.meshBlock [2, 4, 4] ![[0], []] c) wuv)
    (h4 : ∀ c : Dev nD, m ((c : Thread nD τ).loc Cert.KernelIdeal.main_arg4) = wq)
    (h5 : ∀ c : Dev nD, m ((c : Thread nD τ).loc Cert.KernelIdeal.main_arg5) = wqr)
    (h6 : ∀ c : Dev nD, m ((c : Thread nD τ).loc Cert.KernelIdeal.main_arg6) = wkr)
    (h7 : ∀ c : Dev nD, m ((c : Thread nD τ).loc Cert.KernelIdeal.main_arg7) = wo) :
    Ker.Agree m x wd wuk wuv wq wqr wkr wo := by
  letI := preK
  have p0 := fun c => fin_of_cmp _ _ _ (hpre c).1
  have p1 := fun c => fin_of_cmp _ _ _ (hpre c).2.1
  have p2 := fun c => fin_of_cmp _ _ _ (hpre c).2.2.1
  have p4 := fun c => fin_of_cmp _ _ _ (hpre c).2.2.2.1
  have p5 := fun c => fin_of_cmp _ _ _ (hpre c).2.2.2.2.1
  have p6 := fun c => fin_of_cmp _ _ _ (hpre c).2.2.2.2.2
  have e1 : ∀ (c : Dev nD) k j, m ((c : Thread nD τ).loc Cert.KernelIdeal.main_arg1) (ix2 k j) = wd (ix2 k (Ker.lrow c j)) := fun c k j => by rw [h1]; exact cols_at c wd k j
  have e2 : ∀ (c : Dev nD) j e, m ((c : Thread nD τ).loc Cert.KernelIdeal.main_arg2) (ix2 j e) = wuk (ix2 (Ker.lrow c j) e) := fun c j e => by rw [h2]; exact rows_at c wuk j e
  have e3 : ∀ (c : Dev nD) j e, m ((c : Thread nD τ).loc Cert.KernelIdeal.main_arg3) (ix2 j e) = wuv (ix2 (Ker.lrow c j) e) := fun c j e => by rw [h3]; exact rows_at c wuv j e
  constructor
  · intro c s k; rw [Ker.vX_eq, h0]
  · intro c k j; rw [Ker.vDkv_eq]; exact e1 c k j
  · intro c j e; rw [Ker.vUk_eq]; exact e2 c j e
  · intro c j e; rw [Ker.vUv_eq]; exact e3 c j e
  · intro c k e; rw [Ker.vQ_eq, h4]
  · intro c k e; rw [Ker.vQr_eq, h5]
  · intro c k e; rw [Ker.vKr_eq, h6]
  · intro c k e; rw [Ker.vO_eq, h7]
  · intro s k; rw [← h0 0]; exact p0 0 _
  · intro k j; obtain ⟨c, i, rfl⟩ := lrow_surj j; rw [← e1]; exact p1 c _
  · intro j e; obtain ⟨c, i, rfl⟩ := lrow_surj j; rw [← e2]; exact p2 c _
  · intro k e; rw [← h4 0]; exact p4 0 _
  · intro k e; rw [← h5 0]; exact p5 0 _
  · intro k e; rw [← h6 0]; exact p6 0 _

/-- The kernel's idealization computes the reference, on finite arguments. -/
theorem algebraic : Cert.algebraic_KernelIdeal_ReferenceIdeal_pre_finite_KernelIdeal (hPre_finite_KernelIdeal := preK) := by
  intro m g m' g' hpre hag
  have A := agree m _ _ _ _ _ _ _ _ hpre (fun c => (hag c).1) (fun c => (hag c).2.1) (fun c => (hag c).2.2.1) (fun c => (hag c).2.2.2.1)
    (fun c => (hag c).2.2.2.2.1) (fun c => (hag c).2.2.2.2.2.1) (fun c => (hag c).2.2.2.2.2.2.1) (fun c => (hag c).2.2.2.2.2.2.2)
  refine ⟨Cert.ReferenceIdeal.Value.res_main_v38 m' 0, ?_, ?_⟩
  · refine (θ_run Cert.KernelIdeal.defs _ _).mono (fun r h c => ⟨?_, (h.1 c 0).trans (arr_in m c 0 rfl), (h.1 c 1).trans (arr_in m c 1 rfl), (h.1 c 2).trans (arr_in m c 2 rfl),
      (h.1 c 3).trans (arr_in m c 3 rfl), (h.1 c 4).trans (arr_in m c 4 rfl), (h.1 c 5).trans (arr_in m c 5 rfl), (h.1 c 6).trans (arr_in m c 6 rfl), (h.1 c 7).trans (arr_in m c 7 rfl)⟩) (run_main m g)
    refine (h.1 c 8).trans ((arr_out m c).trans ((Ker.outAt_eq A c).trans ?_))
    exact (Ref.res_eq m' 0).symm
  · exact (θ_run Cert.ReferenceIdeal.defs _ _).mono (fun r h => h 0) (Cert.ReferenceIdeal.Value.run (F := Ideal) m' g')

end Cert.KProof
end
-- ==== Proof.lean ====
/-
  The certificate: the kernel's frame at machine floats and at extended reals, the reference's frame, what the
  idealization keeps, and that on finite arguments every device of the kernel ends with the reference's result.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, KProof.preK, KProof.preR,
    KProof.frame_bits, KProof.frame_ideal, fun m g _ => KProof.frame_ideal m g trivial,
    KProof.frame_reference, fun m g _ => KProof.frame_reference m g trivial, trivial, KProof.algebraic⟩

end Cert.Proof

end
